-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_plain [hPre_labels_plain : Cert.Pre_labels_plain.Facts] (m : (ℓ : Loc Cert.KernelIdeal.nD Cert.KernelIdeal.τ Cert.KernelIdeal.sig) → Buf (Elt Ideal) ℓ) : Prop :=
  ∀ c : Dev Cert.KernelIdeal.nD,
    (Cert.Pre_labels_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_plain [hPre_labels_plain : Cert.Pre_labels_plain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_plain [hKernelIdeal : Cert.KernelIdeal.Facts] [hPre_labels_plain : Cert.Pre_labels_plain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_plain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_plain [hReferenceIdeal : Cert.ReferenceIdeal.Facts] [hPre_labels_plain : Cert.Pre_labels_plain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_plain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_plain [hKernelIdeal : Cert.KernelIdeal.Facts] [hReferenceIdeal : Cert.ReferenceIdeal.Facts] [hPre_labels_plain : Cert.Pre_labels_plain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_plain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_plain : Cert.Pre_labels_plain.Facts),
    quiescent_Kernel (hKernel := hKernel)
    ∧ quiescent_KernelIdeal (hKernelIdeal := hKernelIdeal)
    ∧ quiescent_KernelIdeal_pre_labels_plain (hKernelIdeal := hKernelIdeal) (hPre_labels_plain := hPre_labels_plain)
    ∧ quiescent_ReferenceIdeal (hReferenceIdeal := hReferenceIdeal)
    ∧ quiescent_ReferenceIdeal_pre_labels_plain (hReferenceIdeal := hReferenceIdeal) (hPre_labels_plain := hPre_labels_plain)
    ∧ preserves_Kernel_KernelIdeal
    ∧ algebraic_KernelIdeal_ReferenceIdeal_pre_labels_plain (hKernelIdeal := hKernelIdeal) (hReferenceIdeal := hReferenceIdeal) (hPre_labels_plain := hPre_labels_plain)
-- ==== Pre_labels_plain.lean ====
abbrev S1024x100000 : Shape := ⟨2, ![1024, 100000]⟩
abbrev S1024 : Shape := ⟨1, ![1024]⟩
abbrev S1024x128 : Shape := ⟨2, ![1024, 128]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x100000 .f32) (main_arg1 : IVec S1024 32) (main_arg2 : FVec F S1024x128 .f32) : IVec S1024 1 :=
  let main_c : IVec S_ 32 := constantI S_ 32 4294967295#32
  let main_v0 : IVec S1024 32 := broadcastInDim S1024 ![] bcast_S_S1024 main_c
  let main_v1 : IVec S1024 1 := cmpi .sge main_arg1 main_v0
  let main_c_0 : IVec S_ 32 := constantI S_ 32 4294867296#32
  let main_v2 : IVec S1024 32 := broadcastInDim S1024 ![] bcast_S_S1024 main_c_0
  let main_v3 : IVec S1024 1 := cmpi .slt main_arg1 main_v2
  let main_v4 : IVec S1024 1 := ori main_v1 main_v3
  main_v4
-- ==== Kernel.lean ====
abbrev S1024x100000 : Shape := ⟨2, ![1024, 100000]⟩
abbrev S1024 : Shape := ⟨1, ![1024]⟩
abbrev S1024x128 : Shape := ⟨2, ![1024, 128]⟩
abbrev S100000x1024 : Shape := ⟨2, ![100000, 1024]⟩
abbrev S6x8x1024 : Shape := ⟨3, ![6, 8, 1024]⟩
abbrev S6 : Shape := ⟨1, ![6]⟩
abbrev S_ : Shape := ⟨0, ![]⟩
abbrev S16 : Shape := ⟨1, ![16]⟩
abbrev S1x8x1024 : Shape := ⟨3, ![1, 8, 1024]⟩
abbrev S8x1024 : Shape := ⟨2, ![8, 1024]⟩
abbrev S1 : Shape := ⟨1, ![1]⟩
abbrev S1x1x16 : Shape := ⟨3, ![1, 1, 16]⟩

abbrev nBuf : Table → Nat
  | .hbm => 6
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1024x128, .f32⟩
  | .hbm, ⟨3, _⟩ => ⟨S100000x1024, .f32⟩
  | .hbm, ⟨4, _⟩ => ⟨S100000x1024, .f32⟩
  | .hbm, ⟨5, _⟩ => ⟨S1024x100000, .f32⟩
  | .local .scVector .vmem, ⟨0, _⟩ => ⟨S1024, .i32⟩
  | .local .scVector .vmem, ⟨1, _⟩ => ⟨S6x8x1024, .f32⟩
  | .local .scVector .vmem, ⟨2, _⟩ => ⟨S6x8x1024, .f32⟩
  | _, _ => ⟨S1024x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v5 : BitVec 32 := Scalar.addi v1 c0_i32
  let c8_i32 : BitVec 32 := 8#32
  let v6 : BitVec 32 := Scalar.muli v5 c8_i32
  v6
def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v5 : BitVec 32 := Scalar.addi v1 c0_i32
  let c8_i32 : BitVec 32 := 8#32
  let v6 : BitVec 32 := Scalar.muli v5 c8_i32
  let v7 : BitVec 32 := v6
  let c0_i32_4 : BitVec 32 := 0#32
  ![v7.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v16 : BitVec 32 := Scalar.addi v1 c32_i32
  let c8_i32_8 : BitVec 32 := 8#32
  let v17 : BitVec 32 := Scalar.muli v16 c8_i32_8
  v17
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v27 : BitVec 32 := Scalar.addi v1 c64_i32
  let c8_i32_16 : BitVec 32 := 8#32
  let v28 : BitVec 32 := Scalar.muli v27 c8_i32_16
  v28
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v38 : BitVec 32 := Scalar.addi v1 c96_i32
  let c8_i32_25 : BitVec 32 := 8#32
  let v39 : BitVec 32 := Scalar.muli v38 c8_i32_25
  v39
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v49 : BitVec 32 := Scalar.addi v1 c128_i32
  let c8_i32_33 : BitVec 32 := 8#32
  let v50 : BitVec 32 := Scalar.muli v49 c8_i32_33
  v50
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v60 : BitVec 32 := Scalar.addi v1 c160_i32
  let c8_i32_41 : BitVec 32 := 8#32
  let v61 : BitVec 32 := Scalar.muli v60 c8_i32_41
  v61
@[reducible] def k0_t1_loop : Scf.Loop 32 :=
  let c0_i32_49 : BitVec 32 := 0#32
  let c66_i32 : BitVec 32 := 66#32
  let v71 : BitVec 32 := Scalar.addi c0_i32_49 c66_i32
  let c1_i32_50 : BitVec 32 := 1#32
  ⟨c0_i32_49, v71, c1_i32_50⟩
def k0_cond1 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v123 : BitVec 1 := Scalar.cmpi .slt v122 v4
  let v124 : BitVec 32 := Scalar.extui v123
  let c0_i32_114 : BitVec 32 := 0#32
  let v125 : BitVec 1 := Scalar.cmpi .ne v124 c0_i32_114
  v125

@[reducible] def k0_t2_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off2 (k0_t2 : Fin k0_t2_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off3 (k0_t2 : Fin k0_t2_loop.trips) : Fin 3 → Nat :=
  let c0_i32_155 : BitVec 32 := 0#32
  let v180 : Index := Scalar.indexCast c0_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![0, 0, v182.toNat]
def k0_off4 (k0_t2 : Fin k0_t2_loop.trips) : Fin 3 → Nat :=
  let c0_i32_161 : BitVec 32 := 0#32
  let v198 : Index := Scalar.indexCast c0_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![0, 1, v200.toNat]
def k0_off5 (k0_t2 : Fin k0_t2_loop.trips) : Fin 3 → Nat :=
  let c0_i32_167 : BitVec 32 := 0#32
  let v216 : Index := Scalar.indexCast c0_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![0, 2, v218.toNat]
def k0_off6 (k0_t2 : Fin k0_t2_loop.trips) : Fin 3 → Nat :=
  let c0_i32_173 : BitVec 32 := 0#32
  let v234 : Index := Scalar.indexCast c0_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![0, 3, v236.toNat]
def k0_off7 (k0_t2 : Fin k0_t2_loop.trips) : Fin 3 → Nat :=
  let c0_i32_179 : BitVec 32 := 0#32
  let v252 : Index := Scalar.indexCast c0_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![0, 4, v254.toNat]
def k0_off8 (k0_t2 : Fin k0_t2_loop.trips) : Fin 3 → Nat :=
  let c0_i32_185 : BitVec 32 := 0#32
  let v270 : Index := Scalar.indexCast c0_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![0, 5, v272.toNat]
def k0_off9 (k0_t2 : Fin k0_t2_loop.trips) : Fin 3 → Nat :=
  let c0_i32_191 : BitVec 32 := 0#32
  let v288 : Index := Scalar.indexCast c0_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![0, 6, v290.toNat]
def k0_off10 (k0_t2 : Fin k0_t2_loop.trips) : Fin 3 → Nat :=
  let c0_i32_197 : BitVec 32 := 0#32
  let v306 : Index := Scalar.indexCast c0_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t2
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![0, 7, v308.toNat]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let c32_i32_125 : BitVec 32 := 32#32
  let v146 : BitVec 32 := Scalar.muli v122 c32_i32_125
  let v147 : BitVec 32 := Scalar.addi v1 v146
  let c8_i32_126 : BitVec 32 := 8#32
  let v148 : BitVec 32 := Scalar.muli v147 c8_i32_126
  v148
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let c32_i32_125 : BitVec 32 := 32#32
  let v146 : BitVec 32 := Scalar.muli v122 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond3 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let c6_i32_151 : BitVec 32 := 6#32
  let v170 : BitVec 32 := Scalar.addi v122 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let c6_i32_153 : BitVec 32 := 6#32
  let v174 : BitVec 32 := Scalar.addi v122 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c0_i32_113 : BitVec 32 := 0#32
  let v122 : BitVec 32 := Scalar.addi v121 c0_i32_113
  let c6_i32_153 : BitVec 32 := 6#32
  let v174 : BitVec 32 := Scalar.addi v122 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
def k0_cond4 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v127 : BitVec 1 := Scalar.cmpi .slt v126 v4
  let v128 : BitVec 32 := Scalar.extui v127
  let c0_i32_116 : BitVec 32 := 0#32
  let v129 : BitVec 1 := Scalar.cmpi .ne v128 c0_i32_116
  v129

@[reducible] def k0_t3_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off13 (k0_t3 : Fin k0_t3_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off14 (k0_t3 : Fin k0_t3_loop.trips) : Fin 3 → Nat :=
  let c1_i32_155 : BitVec 32 := 1#32
  let v180 : Index := Scalar.indexCast c1_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![1, 0, v182.toNat]
def k0_off15 (k0_t3 : Fin k0_t3_loop.trips) : Fin 3 → Nat :=
  let c1_i32_161 : BitVec 32 := 1#32
  let v198 : Index := Scalar.indexCast c1_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![1, 1, v200.toNat]
def k0_off16 (k0_t3 : Fin k0_t3_loop.trips) : Fin 3 → Nat :=
  let c1_i32_167 : BitVec 32 := 1#32
  let v216 : Index := Scalar.indexCast c1_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![1, 2, v218.toNat]
def k0_off17 (k0_t3 : Fin k0_t3_loop.trips) : Fin 3 → Nat :=
  let c1_i32_173 : BitVec 32 := 1#32
  let v234 : Index := Scalar.indexCast c1_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![1, 3, v236.toNat]
def k0_off18 (k0_t3 : Fin k0_t3_loop.trips) : Fin 3 → Nat :=
  let c1_i32_179 : BitVec 32 := 1#32
  let v252 : Index := Scalar.indexCast c1_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![1, 4, v254.toNat]
def k0_off19 (k0_t3 : Fin k0_t3_loop.trips) : Fin 3 → Nat :=
  let c1_i32_185 : BitVec 32 := 1#32
  let v270 : Index := Scalar.indexCast c1_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![1, 5, v272.toNat]
def k0_off20 (k0_t3 : Fin k0_t3_loop.trips) : Fin 3 → Nat :=
  let c1_i32_191 : BitVec 32 := 1#32
  let v288 : Index := Scalar.indexCast c1_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![1, 6, v290.toNat]
def k0_off21 (k0_t3 : Fin k0_t3_loop.trips) : Fin 3 → Nat :=
  let c1_i32_197 : BitVec 32 := 1#32
  let v306 : Index := Scalar.indexCast c1_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t3
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![1, 7, v308.toNat]
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let c32_i32_125 : BitVec 32 := 32#32
  let v146 : BitVec 32 := Scalar.muli v126 c32_i32_125
  let v147 : BitVec 32 := Scalar.addi v1 v146
  let c8_i32_126 : BitVec 32 := 8#32
  let v148 : BitVec 32 := Scalar.muli v147 c8_i32_126
  v148
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let c32_i32_125 : BitVec 32 := 32#32
  let v146 : BitVec 32 := Scalar.muli v126 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond6 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let c6_i32_151 : BitVec 32 := 6#32
  let v170 : BitVec 32 := Scalar.addi v126 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let c6_i32_153 : BitVec 32 := 6#32
  let v174 : BitVec 32 := Scalar.addi v126 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c1_i32_115 : BitVec 32 := 1#32
  let v126 : BitVec 32 := Scalar.addi v121 c1_i32_115
  let c6_i32_153 : BitVec 32 := 6#32
  let v174 : BitVec 32 := Scalar.addi v126 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
def k0_cond7 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v131 : BitVec 1 := Scalar.cmpi .slt v130 v4
  let v132 : BitVec 32 := Scalar.extui v131
  let c0_i32_118 : BitVec 32 := 0#32
  let v133 : BitVec 1 := Scalar.cmpi .ne v132 c0_i32_118
  v133

@[reducible] def k0_t4_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off24 (k0_t4 : Fin k0_t4_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off25 (k0_t4 : Fin k0_t4_loop.trips) : Fin 3 → Nat :=
  let c2_i32_155 : BitVec 32 := 2#32
  let v180 : Index := Scalar.indexCast c2_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![2, 0, v182.toNat]
def k0_off26 (k0_t4 : Fin k0_t4_loop.trips) : Fin 3 → Nat :=
  let c2_i32_161 : BitVec 32 := 2#32
  let v198 : Index := Scalar.indexCast c2_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![2, 1, v200.toNat]
def k0_off27 (k0_t4 : Fin k0_t4_loop.trips) : Fin 3 → Nat :=
  let c2_i32_167 : BitVec 32 := 2#32
  let v216 : Index := Scalar.indexCast c2_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![2, 2, v218.toNat]
def k0_off28 (k0_t4 : Fin k0_t4_loop.trips) : Fin 3 → Nat :=
  let c2_i32_173 : BitVec 32 := 2#32
  let v234 : Index := Scalar.indexCast c2_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![2, 3, v236.toNat]
def k0_off29 (k0_t4 : Fin k0_t4_loop.trips) : Fin 3 → Nat :=
  let c2_i32_179 : BitVec 32 := 2#32
  let v252 : Index := Scalar.indexCast c2_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![2, 4, v254.toNat]
def k0_off30 (k0_t4 : Fin k0_t4_loop.trips) : Fin 3 → Nat :=
  let c2_i32_185 : BitVec 32 := 2#32
  let v270 : Index := Scalar.indexCast c2_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![2, 5, v272.toNat]
def k0_off31 (k0_t4 : Fin k0_t4_loop.trips) : Fin 3 → Nat :=
  let c2_i32_191 : BitVec 32 := 2#32
  let v288 : Index := Scalar.indexCast c2_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![2, 6, v290.toNat]
def k0_off32 (k0_t4 : Fin k0_t4_loop.trips) : Fin 3 → Nat :=
  let c2_i32_197 : BitVec 32 := 2#32
  let v306 : Index := Scalar.indexCast c2_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t4
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![2, 7, v308.toNat]
def k0_mult11 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let c32_i32_125 : BitVec 32 := 32#32
  let v146 : BitVec 32 := Scalar.muli v130 c32_i32_125
  let v147 : BitVec 32 := Scalar.addi v1 v146
  let c8_i32_126 : BitVec 32 := 8#32
  let v148 : BitVec 32 := Scalar.muli v147 c8_i32_126
  v148
def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let c32_i32_125 : BitVec 32 := 32#32
  let v146 : BitVec 32 := Scalar.muli v130 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond9 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let c6_i32_151 : BitVec 32 := 6#32
  let v170 : BitVec 32 := Scalar.addi v130 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult12 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let c6_i32_153 : BitVec 32 := 6#32
  let v174 : BitVec 32 := Scalar.addi v130 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c2_i32_117 : BitVec 32 := 2#32
  let v130 : BitVec 32 := Scalar.addi v121 c2_i32_117
  let c6_i32_153 : BitVec 32 := 6#32
  let v174 : BitVec 32 := Scalar.addi v130 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
def k0_cond10 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v135 : BitVec 1 := Scalar.cmpi .slt v134 v4
  let v136 : BitVec 32 := Scalar.extui v135
  let c0_i32_120 : BitVec 32 := 0#32
  let v137 : BitVec 1 := Scalar.cmpi .ne v136 c0_i32_120
  v137

@[reducible] def k0_t5_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off35 (k0_t5 : Fin k0_t5_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off36 (k0_t5 : Fin k0_t5_loop.trips) : Fin 3 → Nat :=
  let c3_i32_155 : BitVec 32 := 3#32
  let v180 : Index := Scalar.indexCast c3_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![3, 0, v182.toNat]
def k0_off37 (k0_t5 : Fin k0_t5_loop.trips) : Fin 3 → Nat :=
  let c3_i32_161 : BitVec 32 := 3#32
  let v198 : Index := Scalar.indexCast c3_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![3, 1, v200.toNat]
def k0_off38 (k0_t5 : Fin k0_t5_loop.trips) : Fin 3 → Nat :=
  let c3_i32_167 : BitVec 32 := 3#32
  let v216 : Index := Scalar.indexCast c3_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![3, 2, v218.toNat]
def k0_off39 (k0_t5 : Fin k0_t5_loop.trips) : Fin 3 → Nat :=
  let c3_i32_173 : BitVec 32 := 3#32
  let v234 : Index := Scalar.indexCast c3_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![3, 3, v236.toNat]
def k0_off40 (k0_t5 : Fin k0_t5_loop.trips) : Fin 3 → Nat :=
  let c3_i32_179 : BitVec 32 := 3#32
  let v252 : Index := Scalar.indexCast c3_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![3, 4, v254.toNat]
def k0_off41 (k0_t5 : Fin k0_t5_loop.trips) : Fin 3 → Nat :=
  let c3_i32_185 : BitVec 32 := 3#32
  let v270 : Index := Scalar.indexCast c3_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![3, 5, v272.toNat]
def k0_off42 (k0_t5 : Fin k0_t5_loop.trips) : Fin 3 → Nat :=
  let c3_i32_191 : BitVec 32 := 3#32
  let v288 : Index := Scalar.indexCast c3_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![3, 6, v290.toNat]
def k0_off43 (k0_t5 : Fin k0_t5_loop.trips) : Fin 3 → Nat :=
  let c3_i32_197 : BitVec 32 := 3#32
  let v306 : Index := Scalar.indexCast c3_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t5
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![3, 7, v308.toNat]
def k0_mult13 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let c32_i32_125 : BitVec 32 := 32#32
  let v146 : BitVec 32 := Scalar.muli v134 c32_i32_125
  let v147 : BitVec 32 := Scalar.addi v1 v146
  let c8_i32_126 : BitVec 32 := 8#32
  let v148 : BitVec 32 := Scalar.muli v147 c8_i32_126
  v148
def k0_off44 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let c32_i32_125 : BitVec 32 := 32#32
  let v146 : BitVec 32 := Scalar.muli v134 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond12 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let c6_i32_151 : BitVec 32 := 6#32
  let v170 : BitVec 32 := Scalar.addi v134 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult14 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let c6_i32_153 : BitVec 32 := 6#32
  let v174 : BitVec 32 := Scalar.addi v134 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off45 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c3_i32_119 : BitVec 32 := 3#32
  let v134 : BitVec 32 := Scalar.addi v121 c3_i32_119
  let c6_i32_153 : BitVec 32 := 6#32
  let v174 : BitVec 32 := Scalar.addi v134 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
def k0_cond13 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v139 : BitVec 1 := Scalar.cmpi .slt v138 v4
  let v140 : BitVec 32 := Scalar.extui v139
  let c0_i32_122 : BitVec 32 := 0#32
  let v141 : BitVec 1 := Scalar.cmpi .ne v140 c0_i32_122
  v141

@[reducible] def k0_t6_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off46 (k0_t6 : Fin k0_t6_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off47 (k0_t6 : Fin k0_t6_loop.trips) : Fin 3 → Nat :=
  let c4_i32_155 : BitVec 32 := 4#32
  let v180 : Index := Scalar.indexCast c4_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![4, 0, v182.toNat]
def k0_off48 (k0_t6 : Fin k0_t6_loop.trips) : Fin 3 → Nat :=
  let c4_i32_161 : BitVec 32 := 4#32
  let v198 : Index := Scalar.indexCast c4_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![4, 1, v200.toNat]
def k0_off49 (k0_t6 : Fin k0_t6_loop.trips) : Fin 3 → Nat :=
  let c4_i32_167 : BitVec 32 := 4#32
  let v216 : Index := Scalar.indexCast c4_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![4, 2, v218.toNat]
def k0_off50 (k0_t6 : Fin k0_t6_loop.trips) : Fin 3 → Nat :=
  let c4_i32_173 : BitVec 32 := 4#32
  let v234 : Index := Scalar.indexCast c4_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![4, 3, v236.toNat]
def k0_off51 (k0_t6 : Fin k0_t6_loop.trips) : Fin 3 → Nat :=
  let c4_i32_179 : BitVec 32 := 4#32
  let v252 : Index := Scalar.indexCast c4_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![4, 4, v254.toNat]
def k0_off52 (k0_t6 : Fin k0_t6_loop.trips) : Fin 3 → Nat :=
  let c4_i32_185 : BitVec 32 := 4#32
  let v270 : Index := Scalar.indexCast c4_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![4, 5, v272.toNat]
def k0_off53 (k0_t6 : Fin k0_t6_loop.trips) : Fin 3 → Nat :=
  let c4_i32_191 : BitVec 32 := 4#32
  let v288 : Index := Scalar.indexCast c4_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![4, 6, v290.toNat]
def k0_off54 (k0_t6 : Fin k0_t6_loop.trips) : Fin 3 → Nat :=
  let c4_i32_197 : BitVec 32 := 4#32
  let v306 : Index := Scalar.indexCast c4_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t6
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![4, 7, v308.toNat]
def k0_mult15 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let c32_i32_125 : BitVec 32 := 32#32
  let v146 : BitVec 32 := Scalar.muli v138 c32_i32_125
  let v147 : BitVec 32 := Scalar.addi v1 v146
  let c8_i32_126 : BitVec 32 := 8#32
  let v148 : BitVec 32 := Scalar.muli v147 c8_i32_126
  v148
def k0_off55 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let c32_i32_125 : BitVec 32 := 32#32
  let v146 : BitVec 32 := Scalar.muli v138 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond15 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let c6_i32_151 : BitVec 32 := 6#32
  let v170 : BitVec 32 := Scalar.addi v138 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult16 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let c6_i32_153 : BitVec 32 := 6#32
  let v174 : BitVec 32 := Scalar.addi v138 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off56 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c4_i32_121 : BitVec 32 := 4#32
  let v138 : BitVec 32 := Scalar.addi v121 c4_i32_121
  let c6_i32_153 : BitVec 32 := 6#32
  let v174 : BitVec 32 := Scalar.addi v138 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
def k0_cond16 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v143 : BitVec 1 := Scalar.cmpi .slt v142 v4
  let v144 : BitVec 32 := Scalar.extui v143
  let c0_i32_124 : BitVec 32 := 0#32
  let v145 : BitVec 1 := Scalar.cmpi .ne v144 c0_i32_124
  v145

@[reducible] def k0_t7_loop : Scf.Loop 32 :=
  let c0_i32_139 : BitVec 32 := 0#32
  let c64_i32_140 : BitVec 32 := 64#32
  let v160 : BitVec 32 := Scalar.addi c0_i32_139 c64_i32_140
  let c1_i32_141 : BitVec 32 := 1#32
  ⟨c0_i32_139, v160, c1_i32_141⟩
def k0_off57 (k0_t7 : Fin k0_t7_loop.trips) : Fin 1 → Nat :=
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v177 : Index := Scalar.indexCast v176
  ![v177.toNat]
def k0_off58 (k0_t7 : Fin k0_t7_loop.trips) : Fin 3 → Nat :=
  let c5_i32_155 : BitVec 32 := 5#32
  let v180 : Index := Scalar.indexCast c5_i32_155
  let c0_i32_156 : BitVec 32 := 0#32
  let v181 : Index := Scalar.indexCast c0_i32_156
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v182 : Index := Scalar.indexCast v176
  ![5, 0, v182.toNat]
def k0_off59 (k0_t7 : Fin k0_t7_loop.trips) : Fin 3 → Nat :=
  let c5_i32_161 : BitVec 32 := 5#32
  let v198 : Index := Scalar.indexCast c5_i32_161
  let c1_i32_162 : BitVec 32 := 1#32
  let v199 : Index := Scalar.indexCast c1_i32_162
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v200 : Index := Scalar.indexCast v176
  ![5, 1, v200.toNat]
def k0_off60 (k0_t7 : Fin k0_t7_loop.trips) : Fin 3 → Nat :=
  let c5_i32_167 : BitVec 32 := 5#32
  let v216 : Index := Scalar.indexCast c5_i32_167
  let c2_i32_168 : BitVec 32 := 2#32
  let v217 : Index := Scalar.indexCast c2_i32_168
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v218 : Index := Scalar.indexCast v176
  ![5, 2, v218.toNat]
def k0_off61 (k0_t7 : Fin k0_t7_loop.trips) : Fin 3 → Nat :=
  let c5_i32_173 : BitVec 32 := 5#32
  let v234 : Index := Scalar.indexCast c5_i32_173
  let c3_i32_174 : BitVec 32 := 3#32
  let v235 : Index := Scalar.indexCast c3_i32_174
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v236 : Index := Scalar.indexCast v176
  ![5, 3, v236.toNat]
def k0_off62 (k0_t7 : Fin k0_t7_loop.trips) : Fin 3 → Nat :=
  let c5_i32_179 : BitVec 32 := 5#32
  let v252 : Index := Scalar.indexCast c5_i32_179
  let c4_i32_180 : BitVec 32 := 4#32
  let v253 : Index := Scalar.indexCast c4_i32_180
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v254 : Index := Scalar.indexCast v176
  ![5, 4, v254.toNat]
def k0_off63 (k0_t7 : Fin k0_t7_loop.trips) : Fin 3 → Nat :=
  let c5_i32_185 : BitVec 32 := 5#32
  let v270 : Index := Scalar.indexCast c5_i32_185
  let c5_i32_186 : BitVec 32 := 5#32
  let v271 : Index := Scalar.indexCast c5_i32_186
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v272 : Index := Scalar.indexCast v176
  ![5, 5, v272.toNat]
def k0_off64 (k0_t7 : Fin k0_t7_loop.trips) : Fin 3 → Nat :=
  let c5_i32_191 : BitVec 32 := 5#32
  let v288 : Index := Scalar.indexCast c5_i32_191
  let c6_i32_192 : BitVec 32 := 6#32
  let v289 : Index := Scalar.indexCast c6_i32_192
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v290 : Index := Scalar.indexCast v176
  ![5, 6, v290.toNat]
def k0_off65 (k0_t7 : Fin k0_t7_loop.trips) : Fin 3 → Nat :=
  let c5_i32_197 : BitVec 32 := 5#32
  let v306 : Index := Scalar.indexCast c5_i32_197
  let c7_i32 : BitVec 32 := 7#32
  let v307 : Index := Scalar.indexCast c7_i32
  let c0_i32_154 : BitVec 32 := 0#32
  let c0_i32_139 : BitVec 32 := 0#32
  let c1_i32_141 : BitVec 32 := 1#32
  let arg11 : BitVec 32 := Scf.iv c0_i32_139 c1_i32_141 k0_t7
  let c1_i32_153 : BitVec 32 := 1#32
  let v174 : BitVec 32 := Scalar.muli arg11 c1_i32_153
  let v175 : BitVec 32 := Scalar.addi c0_i32_154 v174
  let c16_i32 : BitVec 32 := 16#32
  let v176 : BitVec 32 := Scalar.muli v175 c16_i32
  let v308 : Index := Scalar.indexCast v176
  ![5, 7, v308.toNat]
def k0_mult17 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let c32_i32_125 : BitVec 32 := 32#32
  let v146 : BitVec 32 := Scalar.muli v142 c32_i32_125
  let v147 : BitVec 32 := Scalar.addi v1 v146
  let c8_i32_126 : BitVec 32 := 8#32
  let v148 : BitVec 32 := Scalar.muli v147 c8_i32_126
  v148
def k0_off66 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let c32_i32_125 : BitVec 32 := 32#32
  let v146 : BitVec 32 := Scalar.muli v142 c32_i32_125
  let v147 : BitVec 32 := Scalar.addi v1 v146
  let c8_i32_126 : BitVec 32 := 8#32
  let v148 : BitVec 32 := Scalar.muli v147 c8_i32_126
  let v161 : BitVec 32 := v148
  let c0_i32_147 : BitVec 32 := 0#32
  ![v161.toNat, 0]
def k0_cond18 (i : grid0.Coords) (k0_t1 : Fin k0_t1_loop.trips) : BitVec 1 :=
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let c6_i32_151 : BitVec 32 := 6#32
  let v170 : BitVec 32 := Scalar.addi v142 c6_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v3 : BitVec 1 := Scalar.cmpi .slt v1 c20_i32
  let c391_i32 : BitVec 32 := 391#32
  let c390_i32 : BitVec 32 := 390#32
  let v4 : BitVec 32 := Scalar.select v3 c391_i32 c390_i32
  let v171 : BitVec 1 := Scalar.cmpi .slt v170 v4
  let v172 : BitVec 32 := Scalar.extui v171
  let c0_i32_152 : BitVec 32 := 0#32
  let v173 : BitVec 1 := Scalar.cmpi .ne v172 c0_i32_152
  v173

def k0_mult18 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let c6_i32_153 : BitVec 32 := 6#32
  let v174 : BitVec 32 := Scalar.addi v142 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  v177
def k0_off67 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_112 : BitVec 32 := 0#32
  let c0_i32_49 : BitVec 32 := 0#32
  let c1_i32_50 : BitVec 32 := 1#32
  let arg10 : BitVec 32 := Scf.iv c0_i32_49 c1_i32_50 k0_t1
  let c6_i32 : BitVec 32 := 6#32
  let v120 : BitVec 32 := Scalar.muli arg10 c6_i32
  let v121 : BitVec 32 := Scalar.addi c0_i32_112 v120
  let c5_i32_123 : BitVec 32 := 5#32
  let v142 : BitVec 32 := Scalar.addi v121 c5_i32_123
  let c6_i32_153 : BitVec 32 := 6#32
  let v174 : BitVec 32 := Scalar.addi v142 c6_i32_153
  let c32_i32_154 : BitVec 32 := 32#32
  let v175 : BitVec 32 := Scalar.muli v174 c32_i32_154
  let v176 : BitVec 32 := Scalar.addi v1 v175
  let c8_i32_155 : BitVec 32 := 8#32
  let v177 : BitVec 32 := Scalar.muli v176 c8_i32_155
  let v178 : BitVec 32 := v177
  let c0_i32_160 : BitVec 32 := 0#32
  ![v178.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1024x128 : Shape := ⟨2, ![1024, 128]⟩
abbrev S_ : Shape := ⟨0, ![]⟩
abbrev S1024x1 : Shape := ⟨2, ![1024, 1]⟩
abbrev S1024x2 : Shape := ⟨2, ![1024, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x128, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024x100000, .f32⟩
  | .hbm, ⟨35, _⟩ => ⟨S_, .f32⟩
  | .hbm, ⟨36, _⟩ => ⟨S1024x100000, .f32⟩
  | .hbm, ⟨37, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.Code.lean ====
/-
  The tile's program in one form for all six ring slots. The printed body spells every slot, row and transfer out; here a slot
  `b`, a row `lr`, a trip and a group are parameters, the integer chains are written once over them with their closed
  forms, and the printed parts are these programs at `b = 0, …, 5` (equal by computation).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Tile

open Idealize.ShloMosaic Idealize.SL.Sem
open Cert.KernelIdeal Cert.KernelIdeal.Gen

variable {F : FTy → Type} [FloatOps F]

/-! ## The integer chains -/

/-- A tile's number: twice its subcore plus its core. -/
def wid (i : grid0.Coords) : ℕ := 2 * (i 1).val + (i 0).val

/-- How many chunks of eight rows a tile moves. -/
def myT (i : grid0.Coords) : ℕ := if wid i < 20 then 391 else 390

abbrev widBV (i : grid0.Coords) : BitVec 32 :=
  Scalar.addi (Scalar.muli (BitVec.ofNat 32 (i 1).val) 2#32) (BitVec.ofNat 32 (i 0).val)

abbrev myTBV (i : grid0.Coords) : BitVec 32 :=
  Scalar.select (Scalar.cmpi .slt (widBV i) 20#32) 391#32 390#32

/-- The chunk a tile handles in trip `t` at slot `b`, counted among its own. -/
abbrev chunkBV (b : Fin 6) (t : Fin k0_t1_loop.trips) : BitVec 32 :=
  Scalar.addi (Scalar.addi 0#32 (Scalar.muli (Scf.iv 0#32 1#32 t) 6#32)) (BitVec.ofNat 32 b.val)

/-- The first row of that chunk. -/
abbrev rowBV (i : grid0.Coords) (b : Fin 6) (t : Fin k0_t1_loop.trips) : BitVec 32 :=
  Scalar.muli (Scalar.addi (widBV i) (Scalar.muli (chunkBV b t) 32#32)) 8#32

/-- Whether there is such a chunk, as the program asks. -/
abbrev condA (i : grid0.Coords) (b : Fin 6) (t : Fin k0_t1_loop.trips) : BitVec 1 :=
  Scalar.cmpi .ne (Scalar.extui (Scalar.cmpi .slt (chunkBV b t) (myTBV i)) : BitVec 32) 0#32

/-- Whether the slot has already sent a chunk out. -/
abbrev condB (b : Fin 6) (t : Fin k0_t1_loop.trips) : BitVec 1 :=
  Scalar.cmpi .ne (Scalar.extui (Scalar.cmpi .sge (chunkBV b t) 6#32) : BitVec 32) 0#32

/-- Whether the slot has a next chunk. -/
abbrev condC (i : grid0.Coords) (b : Fin 6) (t : Fin k0_t1_loop.trips) : BitVec 1 :=
  Scalar.cmpi .ne (Scalar.extui (Scalar.cmpi .slt (Scalar.addi (chunkBV b t) 6#32) (myTBV i)) : BitVec 32) 0#32

def offO (i : grid0.Coords) (b : Fin 6) (t : Fin k0_t1_loop.trips) : Fin 2 → Nat := ![(rowBV i b t).toNat, 0]

def offI (i : grid0.Coords) (b : Fin 6) (t : Fin k0_t1_loop.trips) : Fin 2 → Nat :=
  ![(Scalar.muli (Scalar.addi (widBV i) (Scalar.muli (Scalar.addi (chunkBV b t) 6#32) 32#32)) 8#32).toNat, 0]

def offS (i : grid0.Coords) (b : Fin 6) : Fin 2 → Nat :=
  ![(Scalar.muli (Scalar.addi (widBV i) (BitVec.ofNat 32 (32 * b.val))) 8#32).toNat, 0]

abbrev laneBV (g : Fin k0_t2_loop.trips) : BitVec 32 :=
  Scalar.muli (Scalar.addi 0#32 (Scalar.muli (Scf.iv 0#32 1#32 g) 1#32)) 16#32

def offR (b : Fin 6) (lr : Fin 8) (g : Fin k0_t2_loop.trips) : Fin 3 → Nat :=
  ![b.val, lr.val, (Scalar.indexCast (laneBV g) : Index).toNat]

theorem trips1 : k0_t1_loop.trips = 66 := by decide
theorem trips2 : k0_t2_loop.trips = 64 := by decide

theorem toNat_widBV (i : grid0.Coords) : (widBV i).toNat = wid i := by
  have h0 : (i 0).val < 2 := (i 0).isLt
  have h1 : (i 1).val < 16 := (i 1).isLt
  simp only [widBV, wid, Scalar.addi, Scalar.muli, IntOp.addi, IntOp.muli, BitVec.toNat_add, BitVec.toNat_mul, BitVec.toNat_ofNat]
  omega

theorem wid_lt (i : grid0.Coords) : wid i < 32 := by
  have h0 : (i 0).val < 2 := (i 0).isLt
  have h1 : (i 1).val < 16 := (i 1).isLt
  unfold wid; omega

theorem toNat_chunkBV (b : Fin 6) (t : Fin k0_t1_loop.trips) : (chunkBV b t).toNat = 6 * t.val + b.val := by
  have h1 : t.val < 66 := trips1 ▸ t.isLt
  have h2 := b.isLt
  simp only [chunkBV, Scf.iv, Scalar.addi, Scalar.muli, IntOp.addi, IntOp.muli, BitVec.toNat_add, BitVec.toNat_mul, BitVec.toNat_ofNat]
  omega

theorem toNat_rowBV (i : grid0.Coords) (b : Fin 6) (t : Fin k0_t1_loop.trips) :
    (rowBV i b t).toNat = 8 * (wid i + 32 * (6 * t.val + b.val)) := by
  have h1 : t.val < 66 := trips1 ▸ t.isLt
  have h2 := b.isLt
  have h3 := wid_lt i
  show (BitVec.toNat ((widBV i + chunkBV b t * 32#32) * 8#32)) = _
  simp only [BitVec.toNat_add, BitVec.toNat_mul, BitVec.toNat_ofNat, toNat_widBV, toNat_chunkBV]
  omega

theorem offO_eq (i : grid0.Coords) (b : Fin 6) (t : Fin k0_t1_loop.trips) :
    offO i b t = ![8 * (wid i + 32 * (6 * t.val + b.val)), 0] := by
  rw [offO, toNat_rowBV]

theorem offI_eq (i : grid0.Coords) (b : Fin 6) (t : Fin k0_t1_loop.trips) :
    offI i b t = ![8 * (wid i + 32 * (6 * (t.val + 1) + b.val)), 0] := by
  have h1 : t.val < 66 := trips1 ▸ t.isLt
  have h2 := b.isLt
  have h3 := wid_lt i
  have : (BitVec.toNat ((widBV i + (chunkBV b t + 6#32) * 32#32) * 8#32)) = 8 * (wid i + 32 * (6 * (t.val + 1) + b.val)) := by
    simp only [BitVec.toNat_add, BitVec.toNat_mul, BitVec.toNat_ofNat, toNat_widBV, toNat_chunkBV]
    omega
  rw [← this]; rfl

theorem offS_eq (i : grid0.Coords) (b : Fin 6) : offS i b = ![8 * (wid i + 32 * b.val), 0] := by
  have h2 := b.isLt
  have h3 := wid_lt i
  have : (BitVec.toNat ((widBV i + BitVec.ofNat 32 (32 * b.val)) * 8#32)) = 8 * (wid i + 32 * b.val) := by
    simp only [BitVec.toNat_add, BitVec.toNat_mul, BitVec.toNat_ofNat, toNat_widBV]
    omega
  rw [← this]; rfl

theorem offL_eq (g : Fin k0_t2_loop.trips) : k0_off2 g = ![16 * g.val] := k0_off2_eq g

theorem offR_eq (b : Fin 6) (lr : Fin 8) (g : Fin k0_t2_loop.trips) : offR b lr g = ![b.val, lr.val, 16 * g.val] := by
  have := congrFun (k0_off2_eq g) 0
  rw [offR]
  exact congrArg (fun n => ![b.val, lr.val, n]) this

theorem myTBV_eq (i : grid0.Coords) : myTBV i = BitVec.ofNat 32 (myT i) := by
  have h : Scalar.cmpi .slt (widBV i) 20#32 = BitVec.ofBool (decide (wid i < 20)) := by
    have h3 := wid_lt i
    have h4 := toNat_widBV i
    have : (widBV i).toInt = wid i := by
      rw [BitVec.toInt_eq_toNat_of_lt (by omega), h4]
    have e20 : (20#32 : BitVec 32).toInt = 20 := by decide
    simp only [Scalar.cmpi, IntOp.cmpi, BitVec.slt, this, e20]
    congr 1
    simp only [decide_eq_decide]
    omega
  unfold myTBV myT
  rw [h]
  by_cases hw : wid i < 20 <;> simp [hw, Scalar.select]

theorem myT_le (i : grid0.Coords) : 390 ≤ myT i ∧ myT i ≤ 391 := by unfold myT; split <;> omega

/-- A signed comparison of two small numbers, as the program's conditionals test it. -/
theorem cond_slt (a b : BitVec 32) (m n : ℕ) (ha : a.toNat = m) (hb : b.toNat = n) (hm : m < 2^31) (hn : n < 2^31) :
    Scalar.cmpi .ne (Scalar.extui (Scalar.cmpi .slt a b) : BitVec 32) 0#32 = 1#1 ↔ m < n := by
  have e1 : a.toInt = m := by rw [BitVec.toInt_eq_toNat_of_lt (by omega), ha]
  have e2 : b.toInt = n := by rw [BitVec.toInt_eq_toNat_of_lt (by omega), hb]
  by_cases h : m < n
  · have : Scalar.cmpi .slt a b = 1#1 := by simp [Scalar.cmpi, IntOp.cmpi, BitVec.slt, e1, e2, h]
    rw [this]; simp only [h, iff_true]; decide
  · have : Scalar.cmpi .slt a b = 0#1 := by simp [Scalar.cmpi, IntOp.cmpi, BitVec.slt, e1, e2, h]
    rw [this]; simp only [h, iff_false]; decide

theorem condA_iff (i : grid0.Coords) (b : Fin 6) (t : Fin k0_t1_loop.trips) :
    condA i b t = 1#1 ↔ 6 * t.val + b.val < myT i := by
  have h1 : t.val < 66 := trips1 ▸ t.isLt
  have h2 := b.isLt
  have h3 := myT_le i
  exact cond_slt _ _ _ _ (toNat_chunkBV b t) (by rw [myTBV_eq, BitVec.toNat_ofNat]; omega) (by omega) (by omega)

theorem condC_iff (i : grid0.Coords) (b : Fin 6) (t : Fin k0_t1_loop.trips) :
    condC i b t = 1#1 ↔ 6 * (t.val + 1) + b.val < myT i := by
  have h1 : t.val < 66 := trips1 ▸ t.isLt
  have h2 := b.isLt
  have h3 := myT_le i
  refine cond_slt _ _ _ _ ?_ (by rw [myTBV_eq, BitVec.toNat_ofNat]; omega) (by omega) (by omega)
  show (chunkBV b t + 6#32).toNat = _
  rw [BitVec.toNat_add, toNat_chunkBV]; simp only [BitVec.toNat_ofNat]; omega

theorem condB_iff (b : Fin 6) (t : Fin k0_t1_loop.trips) : condB b t = 1#1 ↔ 0 < t.val := by
  have h1 : t.val < 66 := trips1 ▸ t.isLt
  have h2 := b.isLt
  have e : Scalar.cmpi .sge (chunkBV b t) 6#32 = Scalar.cmpi .slt 5#32 (chunkBV b t) := by
    have e1 : (chunkBV b t).toInt = (6 * t.val + b.val : ℕ) := by
      rw [BitVec.toInt_eq_toNat_of_lt (by rw [toNat_chunkBV]; omega), toNat_chunkBV]
    have e6 : (6#32 : BitVec 32).toInt = 6 := by decide
    have e5 : (5#32 : BitVec 32).toInt = 5 := by decide
    simp only [Scalar.cmpi, IntOp.cmpi, BitVec.slt, BitVec.sle, e1, e5, e6]
    congr 1
  rw [condB, e]
  exact (cond_slt _ _ 5 _ (by decide) (toNat_chunkBV b t) (by omega) (by omega)).trans (by omega)

/-! ## The operands -/

abbrev xtV : Memref sig .scVector .hbm S100000x1024 .f32 := Memref.whole main_v0_scv
abbrev labV : Memref sig .scVector .hbm S1024 .i32 := Memref.whole main_arg1_scv
abbrev outV : Memref sig .scVector .hbm S100000x1024 .f32 := Memref.whole main_v1_scv
abbrev lbufV : Memref sig .scVector .vmem S1024 .i32 := Memref.whole cc0_scratch0
abbrev ibufV : Memref sig .scVector .vmem S6x8x1024 .f32 := Memref.whole cc0_scratch1
abbrev obufV : Memref sig .scVector .vmem S6x8x1024 .f32 := Memref.whole cc0_scratch2

theorem inb_slot (b : Fin 6) : ∀ a, (![b.val, 0, 0] : Fin 3 → ℕ) a + S1x8x1024.size a ≤ S6x8x1024.size a := by
  revert b; decide
theorem inb_sem (b : Fin 6) : ∀ a, (![b.val] : Fin 1 → ℕ) a + S1.size a ≤ S6.size a := by
  revert b; decide

/-- Slot `b` of a buffer of six, as a block of eight rows. -/
abbrev slotOf (v : Memref sig .scVector .vmem S6x8x1024 .f32) (b : Fin 6) : Memref sig .scVector .vmem S8x1024 .f32 :=
  (v.slice (Rect.unit (s := S6x8x1024) ![b.val, 0, 0] S1x8x1024.size (inb_slot b)) (fun _ => rfl)).squeeze S8x1024
    squeezes_S1x8x1024_S8x1024

abbrev semOf (v : DmaSems sig S6) (b : Fin 6) : DmaSem sig :=
  ((v.slice (Rect.unit (s := S6) ![b.val] S1.size (inb_sem b))).squeeze S_ squeezes_S1_S_).sem

abbrev isem (b : Fin 6) : DmaSem sig := semOf cc0_scratch3 b
abbrev osem (b : Fin 6) : DmaSem sig := semOf cc0_scratch4 b
abbrev lsem : DmaSem sig := cc0_scoped0.sem

theorem inb_off (n : ℕ) (h : n ≤ 12499) (o : Fin 2 → ℕ) (ho : o = ![8 * n, 0]) :
    ∀ a, o a + S8x1024.size a ≤ S100000x1024.size a := by
  subst ho
  intro a
  match a with
  | 0 => show 8 * n + 8 ≤ 100000; omega
  | 1 => show 0 + 1024 ≤ 1024; omega

theorem offS_inb (i : grid0.Coords) (b : Fin 6) : ∀ a, offS i b a + S8x1024.size a ≤ S100000x1024.size a :=
  inb_off _ (by have := wid_lt i; omega) _ (offS_eq i b)

theorem row_lt {i : grid0.Coords} {n : ℕ} (h : n < myT i) : wid i + 32 * n ≤ 12499 := by
  have := wid_lt i
  unfold myT at h; split at h <;> omega

theorem offO_inb {i : grid0.Coords} {b : Fin 6} {t : Fin k0_t1_loop.trips} (h : condA i b t = 1#1) :
    ∀ a, offO i b t a + S8x1024.size a ≤ S100000x1024.size a :=
  inb_off _ (row_lt ((condA_iff i b t).1 h)) _ (offO_eq i b t)

theorem offI_inb {i : grid0.Coords} {b : Fin 6} {t : Fin k0_t1_loop.trips} (h : condC i b t = 1#1) :
    ∀ a, offI i b t a + S8x1024.size a ≤ S100000x1024.size a :=
  inb_off _ (row_lt ((condC_iff i b t).1 h)) _ (offI_eq i b t)

theorem off0_inb : ∀ a, (![0, 0] : Fin 2 → ℕ) a + S8x1024.size a ≤ S100000x1024.size a := by decide

theorem offL_inb (g : Fin k0_t2_loop.trips) : ∀ a, k0_off2 g a + S16.size a ≤ S1024.size a := by
  have h : g.val < 64 := trips2 ▸ g.isLt
  rw [offL_eq]
  intro a
  match a with
  | 0 => show 16 * g.val + 16 ≤ 1024; omega

theorem offR_inb (b : Fin 6) (lr : Fin 8) (g : Fin k0_t2_loop.trips) :
    ∀ a, offR b lr g a + S1x1x16.size a ≤ S6x8x1024.size a := by
  have h : g.val < 64 := trips2 ▸ g.isLt
  rw [offR_eq]
  intro a
  match a with
  | 0 => show b.val + 1 ≤ 6; omega
  | 1 => show lr.val + 1 ≤ 8; omega
  | 2 => show 16 * g.val + 16 ≤ 1024; omega

/-! ## The programs -/

abbrev TP (F : FTy → Type) (i : grid0.Coords) : Type → Type 1 :=
  Prog (TpuEff nD τ sig (Elt F) Λ₀ (.scVector ((i 0).castLE hcore0) ((i 1).castLE hsub0)))

/-- Eight rows of `xt` or of the output. -/
abbrev rows (v : Memref sig .scVector .hbm S100000x1024 .f32) (o : Fin 2 → ℕ)
    (h : ∀ a, o a + S8x1024.size a ≤ S100000x1024.size a) : Memref sig .scVector .hbm S8x1024 .f32 :=
  v.slice (Rect.unit (s := S100000x1024) o S8x1024.size h) (fun _ => rfl)

/-- Start the copy of eight rows in. -/
def startIn (i : grid0.Coords) (b : Fin 6) (o : Fin 2 → ℕ) (h : ∀ a, o a + S8x1024.size a ≤ S100000x1024.size a) :
    TP F i PUnit :=
  Prog.lift (.enqueueDma (rows xtV o h) (.here (slotOf ibufV b)) (.dma (isem b)) (View.wordExact_bits rfl)
    ((View.wordExact_bits rfl).reshape _ _) ⟨Or.inl rfl, trivial⟩)

/-- Wait for it. -/
def waitIn (i : grid0.Coords) (b : Fin 6) : TP F i PUnit :=
  Prog.lift (.waitDma2 (isem b) (rows xtV ![0, 0] off0_inb) (slotOf ibufV b) (View.wordExact_bits rfl)
    ((View.wordExact_bits rfl).reshape _ _))

/-- Start the copy of eight rows out. -/
def startOut (i : grid0.Coords) (b : Fin 6) (o : Fin 2 → ℕ) (h : ∀ a, o a + S8x1024.size a ≤ S100000x1024.size a) :
    TP F i PUnit :=
  Prog.lift (.enqueueDma (slotOf obufV b) (.here (rows outV o h)) (.dma (osem b)) ((View.wordExact_bits rfl).reshape _ _)
    (View.wordExact_bits rfl) ⟨Or.inl rfl, trivial⟩)

def waitOut (i : grid0.Coords) (b : Fin 6) : TP F i PUnit :=
  Prog.lift (.waitDma2 (osem b) (slotOf obufV b) (rows outV ![0, 0] off0_inb) ((View.wordExact_bits rfl).reshape _ _)
    (View.wordExact_bits rfl))

abbrev lanes (b : Fin 6) (lr : Fin 8) (g : Fin k0_t2_loop.trips) : Rect S6x8x1024 :=
  Rect.unit (s := S6x8x1024) (offR b lr g) S1x1x16.size (offR_inb b lr g)

/-- What sixteen lanes of a row become: sixty-four times the lane, and a constant more where the label names the row. -/
def lanesPay (v2 : FVec F S16 .f32) (row : BitVec 32) (labs : IVec S16 32) (x : Vec F S1x1x16 .f32) : FVec F S1x1x16 .f32 :=
  shapeCast S1x1x16
    (select (cmpi .eq labs (broadcast S16 row))
      (addf (mulf (shapeCast S16 x shapeCasts_S1x1x16_S16) (broadcast S16 (Scalar.ofBits .f32 0x42800000#32))) v2)
      (mulf (shapeCast S16 x shapeCasts_S1x1x16_S16) (broadcast S16 (Scalar.ofBits .f32 0x42800000#32))))
    shapeCasts_S16_S1x1x16

/-- One row of a group: sixteen lanes read, computed and stored. -/
def rowOp (i : grid0.Coords) (v2 : FVec F S16 .f32) (b : Fin 6) (g : Fin k0_t2_loop.trips) (row0 : BitVec 32)
    (labs : IVec S16 32) (lr : Fin 8) : TP F i PUnit := do
  let x : Vec F S1x1x16 .f32 ← Prog.lift (.load ibufV (lanes b lr g).toLoadRect (View.loadsAt_vmem h_S1x1x16))
  let _ : Vec F S1x1x16 .f32 ← Prog.lift (.load obufV (lanes b lr g).toLoadRect (View.loadsAt_vmem h_S1x1x16))
  Prog.lift (.store obufV (lanes b lr g) (lanesPay v2 (Scalar.addi row0 (BitVec.ofNat 32 lr.val)) labs x) Finset.univ
    (View.stores_vmem_bits_univ h_S1x1x16 rfl) (.inl rfl))

/-- One group of sixteen columns: its labels, then its eight rows. -/
def groupOp (i : grid0.Coords) (v2 : FVec F S16 .f32) (b : Fin 6) (row0 : BitVec 32) (g : Fin k0_t2_loop.trips) :
    TP F i PUnit := do
  let l : Vec F S16 .i32 ← Prog.lift (.load lbufV (Rect.unit (s := S1024) (k0_off2 g) S16.size (offL_inb g)).toLoadRect
    (View.loadsAt_vmem h_S16))
  have labs : IVec S16 32 := shapeCast S16 l shapeCasts_S16_S16
  rowOp i v2 b g row0 labs 0
  rowOp i v2 b g row0 labs 1
  rowOp i v2 b g row0 labs 2
  rowOp i v2 b g row0 labs 3
  rowOp i v2 b g row0 labs 4
  rowOp i v2 b g row0 labs 5
  rowOp i v2 b g row0 labs 6
  rowOp i v2 b g row0 labs 7
  pure ⟨⟩

/-- One chunk: wait for its rows, and for the slot's last copy out, compute, and start the copy out. -/
def chunkOp (i : grid0.Coords) (v2 : FVec F S16 .f32) (b : Fin 6) (t : Fin k0_t1_loop.trips) (h : condA i b t = 1#1) :
    TP F i PUnit := do
  waitIn i b
  if _h2 : condB b t = 1#1 then do
    waitOut i b
    pure ⟨⟩
  else do
    pure ⟨⟩
  Scf.Loop.for k0_t2_loop k0_t2_abs.1 ⟨⟩ (fun g (_ : PUnit) => groupOp i v2 b (rowBV i b t) g)
  startOut i b (offO i b t) (offO_inb h)
  pure ⟨⟩

/-- A slot's step in a trip, before the rest of the trip. -/
def stepOp (i : grid0.Coords) (v2 : FVec F S16 .f32) (t : Fin k0_t1_loop.trips) (b : Fin 6) (kk : TP F i PUnit) :
    TP F i PUnit := do
  if h1 : condA i b t = 1#1 then do
    chunkOp i v2 b t h1
    if h3 : condC i b t = 1#1 then do
      startIn i b (offI i b t) (offI_inb h3)
      pure ⟨⟩
    else do
      pure ⟨⟩
    pure ⟨⟩
  else do
    pure ⟨⟩
  kk

/-- A step for every slot, in order. -/
def chain {α : Type 1} (f : Fin 6 → α → α) (k : α) : α := f 0 (f 1 (f 2 (f 3 (f 4 (f 5 k)))))

/-- One trip of the ring. -/
def tripOp (i : grid0.Coords) (v2 : FVec F S16 .f32) (t : Fin k0_t1_loop.trips) : TP F i PUnit :=
  chain (stepOp i v2 t) (pure ⟨⟩)

/-- The constant added where the label names the row, in every lane. -/
def marginV : FVec F S16 .f32 := broadcast S16 (Scalar.ofBits .f32 0xC1CCCCCD#32)

/-- The labels into the tile's memory. -/
def labStart (i : grid0.Coords) : TP F i PUnit :=
  Prog.lift (.enqueueDma labV (.here lbufV) (.dma lsem) (Memref.isWhole_whole _).wordExact (Memref.isWhole_whole _).wordExact
    ⟨Or.inl rfl, trivial⟩)

def labWait (i : grid0.Coords) : TP F i PUnit :=
  Prog.lift (.waitDma2 lsem labV lbufV (Memref.isWhole_whole _).wordExact (Memref.isWhole_whole _).wordExact)

def startStep (i : grid0.Coords) (b : Fin 6) (kk : TP F i PUnit) : TP F i PUnit := do
  startIn i b (offS i b) (offS_inb i b)
  kk

def waitStep (i : grid0.Coords) (b : Fin 6) (kk : TP F i PUnit) : TP F i PUnit := do
  waitOut i b
  kk

def ringOp (i : grid0.Coords) (v2 : FVec F S16 .f32) : TP F i PUnit :=
  Scf.Loop.for k0_t1_loop k0_t1_abs.1 ⟨⟩ (fun t (_ : PUnit) => tripOp i v2 t)

/-- The tile's whole program. -/
def bodyOp (i : grid0.Coords) : TP F i PUnit := do
  labStart i
  labWait i
  chain (startStep i) (do
    ringOp i marginV
    chain (waitStep i) (pure ⟨⟩))

section
set_option maxRecDepth 65536

theorem body_split (i : grid0.Coords) :
    cc0_sc_fn (F := F) i xtV (Memref.isWhole_whole _) labV (Memref.isWhole_whole _) outV (Memref.isWhole_whole _) lbufV
      (Memref.isWhole_whole _) ibufV (Memref.isWhole_whole _) obufV (Memref.isWhole_whole _) cc0_scratch3 cc0_scratch4
      cc0_scoped0 = (do
        labStart i
        labWait i
        chain (startStep i) (do
          (do ringOp i marginV
              waitOut i 0
              pure ⟨⟩)
          waitStep i 1 (waitStep i 2 (waitStep i 3 (waitStep i 4 (waitStep i 5 (pure ⟨⟩))))))) := rfl

theorem body_eq (i : grid0.Coords) :
    cc0_sc_fn (F := F) i xtV (Memref.isWhole_whole _) labV (Memref.isWhole_whole _) outV (Memref.isWhole_whole _) lbufV
      (Memref.isWhole_whole _) ibufV (Memref.isWhole_whole _) obufV (Memref.isWhole_whole _) cc0_scratch3 cc0_scratch4
      cc0_scoped0 = bodyOp i := by
  rw [body_split]
  simp only [bind_assoc, pure_bind]
  rfl

end

-- Opened by name, never by computation.
attribute [irreducible] chunkOp stepOp tripOp ringOp startStep waitStep

end Cert.Proof.Tile

end
-- ==== Proof.Places.lean ====
/-
  Where the tile's views sit: a slot of a buffer of six is the indices with that first coordinate, eight rows of an array are the
  indices whose row lies among them, sixteen lanes of a row are a run of one row's columns.
-/
module

public import proofs.«01_k».proof.Proof.Code
public import Idealize.ShloMosaic.Lib.Pipeline.Value

@[expose] public section

noncomputable section

namespace Cert.Proof.Tile

open Idealize.ShloMosaic Idealize.SL.Sem
open Cert.KernelIdeal Cert.KernelIdeal.Gen

variable {F : FTy → Type}

def ix1 (c : Fin 1024) : S1024.Idx := fun | ⟨0, _⟩ => c
def ix2 (r : Fin 100000) (c : Fin 1024) : S100000x1024.Idx := fun | ⟨0, _⟩ => r | ⟨1, _⟩ => c
def ix3 (b : Fin 6) (r : Fin 8) (c : Fin 1024) : S6x8x1024.Idx := fun | ⟨0, _⟩ => b | ⟨1, _⟩ => r | ⟨2, _⟩ => c
/-- A row of a chunk, as a row of the array. -/
def rowAt (n : ℕ) (r : Fin 8) : Fin 100000 := ⟨(8 * n + r.val) % 100000, Nat.mod_lt _ (by decide)⟩

theorem ix2_eta (j : S100000x1024.Idx) : ix2 (j 0) (j 1) = j := funext fun a => match a with | ⟨0, _⟩ => rfl | ⟨1, _⟩ => rfl
theorem ix3_eta (j : S6x8x1024.Idx) : ix3 (j 0) (j 1) (j 2) = j :=
  funext fun a => match a with | ⟨0, _⟩ => rfl | ⟨1, _⟩ => rfl | ⟨2, _⟩ => rfl

/-! ## A slot -/

def slotSet (b : Fin 6) : Finset S6x8x1024.Idx := Finset.univ.filter fun j => (j 0).val = b.val

theorem mem_slotSet {b : Fin 6} {j : S6x8x1024.Idx} : j ∈ slotSet b ↔ (j 0).val = b.val := by simp [slotSet]

abbrev slotRect (b : Fin 6) : Rect S6x8x1024 := Rect.unit (s := S6x8x1024) ![b.val, 0, 0] S1x8x1024.size (inb_slot b)

def slotEmb (b : Fin 6) (k : S8x1024.Idx) : S6x8x1024.Idx :=
  (slotRect b).emb (Shape.reshapeEquiv squeezes_S1x8x1024_S8x1024.numel_eq k)

theorem slotEmb_eq (b : Fin 6) (k : S8x1024.Idx) : slotEmb b k = ix3 b (k 0) (k 1) := by
  have e : Shape.reshapeEquiv squeezes_S1x8x1024_S8x1024.numel_eq k
      = (fun | ⟨0, _⟩ => (0 : Fin 1) | ⟨1, _⟩ => k 0 | ⟨2, _⟩ => k 1 : S1x8x1024.Idx) := by
    apply Shape.reshapeEquiv_eq_of_rowMajor
    refine (Shape.rowMajor_val_three _).trans (Eq.trans ?_ (Shape.rowMajor_val_two _).symm)
    show (0 * 8 + (k 0).val) * 1024 + (k 1).val = (k 0).val * 1024 + (k 1).val
    omega
  unfold slotEmb
  rw [e]
  funext a
  apply Fin.ext
  match a with
  | ⟨0, _⟩ => show b.val + 1 * 0 = b.val; omega
  | ⟨1, _⟩ => show 0 + 1 * (k 0).val = (k 0).val; omega
  | ⟨2, _⟩ => show 0 + 1 * (k 1).val = (k 1).val; omega

theorem emb_islot (b : Fin 6) (k : S8x1024.Idx) : (slotOf ibufV b).view.emb k = slotEmb b k := rfl
theorem emb_oslot (b : Fin 6) (k : S8x1024.Idx) : (slotOf obufV b).view.emb k = slotEmb b k := rfl

theorem slot_cover {b : Fin 6} {j : S6x8x1024.Idx} (h : j ∈ slotSet b) :
    ∃ k : S8x1024.Idx, slotEmb b k = j := by
  refine ⟨(fun | ⟨0, _⟩ => j 1 | ⟨1, _⟩ => j 2), ?_⟩
  rw [slotEmb_eq, ← ix3_eta j, show j 0 = b from Fin.ext (mem_slotSet.1 h)]
  rfl

theorem slotEmb_mem (b : Fin 6) (k : S8x1024.Idx) : slotEmb b k ∈ slotSet b := by
  rw [slotEmb_eq]; exact mem_slotSet.2 rfl

theorem map_univ_eq {α β : Type} [Fintype α] (f : α ↪ β) (T : Finset β) (h1 : ∀ k, f k ∈ T) (h2 : ∀ j ∈ T, ∃ k, f k = j) :
    Finset.univ.map f = T := by
  ext j
  refine (Finset.mem_map).trans ⟨?_, fun h => ?_⟩
  · rintro ⟨k, -, rfl⟩; exact h1 k
  · obtain ⟨k, hk⟩ := h2 j h
    exact ⟨k, Finset.mem_univ _, hk⟩

theorem set_islot (b : Fin 6) : (slotOf ibufV b).view.set = slotSet b :=
  map_univ_eq (slotOf ibufV b).view.emb _ (slotEmb_mem b) fun _ => slot_cover
theorem set_oslot (b : Fin 6) : (slotOf obufV b).view.set = slotSet b :=
  map_univ_eq (slotOf obufV b).view.emb _ (slotEmb_mem b) fun _ => slot_cover

/-! ## Eight rows -/

def chunkSet (n : ℕ) : Finset S100000x1024.Idx := Finset.univ.filter fun j => (j 0).val / 8 = n

theorem mem_chunkSet {n : ℕ} {j : S100000x1024.Idx} : j ∈ chunkSet n ↔ (j 0).val / 8 = n := by simp [chunkSet]

def rowsEmb (o : Fin 2 → ℕ) (h : ∀ a, o a + S8x1024.size a ≤ S100000x1024.size a) (k : S8x1024.Idx) : S100000x1024.Idx :=
  (Rect.unit (s := S100000x1024) o S8x1024.size h).emb k

theorem rowsEmb_eq {o : Fin 2 → ℕ} {h : ∀ a, o a + S8x1024.size a ≤ S100000x1024.size a} {n : ℕ} (ho : o = ![8 * n, 0])
    (k : S8x1024.Idx) : rowsEmb o h k = ix2 (rowAt n (k 0)) (k 1) := by
  subst ho
  have h0 : 8 * n + 8 ≤ 100000 := h 0
  have hk : (k 0).val < 8 := (k 0).isLt
  funext a
  apply Fin.ext
  match a with
  | ⟨0, _⟩ => show 8 * n + 1 * (k 0).val = (8 * n + (k 0).val) % 100000; omega
  | ⟨1, _⟩ => show 0 + 1 * (k 1).val = (k 1).val; omega

theorem emb_xrows (o : Fin 2 → ℕ) (h) (k : S8x1024.Idx) : (rows xtV o h).view.emb k = rowsEmb o h k := rfl
theorem emb_orows (o : Fin 2 → ℕ) (h) (k : S8x1024.Idx) : (rows outV o h).view.emb k = rowsEmb o h k := rfl

theorem rows_cover {o : Fin 2 → ℕ} {h : ∀ a, o a + S8x1024.size a ≤ S100000x1024.size a} {n : ℕ} (ho : o = ![8 * n, 0])
    {j : S100000x1024.Idx} (hj : j ∈ chunkSet n) : ∃ k : S8x1024.Idx, rowsEmb o h k = j := by
  have h1 := mem_chunkSet.1 hj
  have h2 : (j 0).val < 100000 := (j 0).isLt
  refine ⟨(fun | ⟨0, _⟩ => ⟨(j 0).val % 8, Nat.mod_lt _ (by decide)⟩ | ⟨1, _⟩ => j 1), ?_⟩
  rw [rowsEmb_eq ho, ← ix2_eta j]
  congr 1
  apply Fin.ext
  show (8 * n + (j 0).val % 8) % 100000 = (j 0).val
  omega

theorem rowsEmb_mem {o : Fin 2 → ℕ} {h : ∀ a, o a + S8x1024.size a ≤ S100000x1024.size a} {n : ℕ} (ho : o = ![8 * n, 0])
    (k : S8x1024.Idx) : rowsEmb o h k ∈ chunkSet n := by
  have h0 : 8 * n + 8 ≤ 100000 := by subst ho; exact h 0
  have hk : (k 0).val < 8 := (k 0).isLt
  rw [rowsEmb_eq ho]
  refine mem_chunkSet.2 ?_
  show (8 * n + (k 0).val) % 100000 / 8 = n
  omega

theorem set_xrows {o : Fin 2 → ℕ} {h : ∀ a, o a + S8x1024.size a ≤ S100000x1024.size a} {n : ℕ} (ho : o = ![8 * n, 0]) :
    (rows xtV o h).view.set = chunkSet n :=
  map_univ_eq (rows xtV o h).view.emb _ (rowsEmb_mem ho) fun _ => rows_cover ho

theorem set_orows {o : Fin 2 → ℕ} {h : ∀ a, o a + S8x1024.size a ≤ S100000x1024.size a} {n : ℕ} (ho : o = ![8 * n, 0]) :
    (rows outV o h).view.set = chunkSet n :=
  map_univ_eq (rows outV o h).view.emb _ (rowsEmb_mem ho) fun _ => rows_cover ho

/-! ## Sixteen lanes -/

theorem lanes_emb (b : Fin 6) (lr : Fin 8) (g : Fin k0_t2_loop.trips) (k : S1x1x16.Idx) :
    ((lanes b lr g).emb k 0).val = b.val ∧ ((lanes b lr g).emb k 1).val = lr.val
      ∧ ((lanes b lr g).emb k 2).val = 16 * g.val + (k 2).val := by
  have e := offR_eq b lr g
  have h0 : (k 0).val < 1 := (k 0).isLt
  have h1 : (k 1).val < 1 := (k 1).isLt
  refine ⟨?_, ?_, ?_⟩
  · show offR b lr g 0 + 1 * (k 0).val = _
    rw [e]; show b.val + 1 * _ = _; omega
  · show offR b lr g 1 + 1 * (k 1).val = _
    rw [e]; show lr.val + 1 * _ = _; omega
  · show offR b lr g 2 + 1 * (k 2).val = _
    rw [e]; show 16 * g.val + 1 * _ = _; omega

theorem lanes_cover {b : Fin 6} {lr : Fin 8} {g : Fin k0_t2_loop.trips} {j : S6x8x1024.Idx} (h0 : (j 0).val = b.val)
    (h1 : (j 1).val = lr.val) (h2 : (j 2).val / 16 = g.val) : ∃ k : S1x1x16.Idx, (lanes b lr g).emb k = j := by
  have hj : (j 2).val < 1024 := (j 2).isLt
  refine ⟨(fun | ⟨0, _⟩ => (0 : Fin 1) | ⟨1, _⟩ => (0 : Fin 1) | ⟨2, _⟩ => ⟨(j 2).val % 16, Nat.mod_lt _ (by decide)⟩), ?_⟩
  obtain ⟨e0, e1, e2⟩ := lanes_emb b lr g
    (fun | ⟨0, _⟩ => (0 : Fin 1) | ⟨1, _⟩ => (0 : Fin 1) | ⟨2, _⟩ => ⟨(j 2).val % 16, Nat.mod_lt _ (by decide)⟩)
  funext a
  apply Fin.ext
  match a with
  | ⟨0, _⟩ => exact e0.trans h0.symm
  | ⟨1, _⟩ => exact e1.trans h1.symm
  | ⟨2, _⟩ => refine e2.trans ?_; show 16 * g.val + (j 2).val % 16 = (j 2).val; omega

/-! ## The values -/

variable [FloatOps F]

/-- One entry of the result: the logit times sixty-four, and the margin more where the label names the column. -/
def gval (x : F .f32) (lab row : BitVec 32) : F .f32 :=
  Scalar.select (IntOp.cmpi .eq lab row)
    (FloatOps.addf (FloatOps.mulf x (Scalar.ofBits .f32 0x42800000#32)) (Scalar.ofBits .f32 0xC1CCCCCD#32))
    (FloatOps.mulf x (Scalar.ofBits .f32 0x42800000#32))

variable (xt : S100000x1024.Idx → F .f32) (lab : S1024.Idx → BitVec 32)

/-- The result over the transposed logits. -/
def G : S100000x1024.Idx → F .f32 := fun j => gval (xt j) (lab (ix1 (j 1))) (BitVec.ofNat 32 (j 0).val)

/-- A slot holding chunk `n` of the transposed logits. -/
def XB (n : ℕ) : S6x8x1024.Idx → F .f32 := fun j => xt (ix2 (rowAt n (j 1)) (j 2))

/-- A slot holding chunk `n` of the result. -/
def OB (n : ℕ) : S6x8x1024.Idx → F .f32 := fun j => G xt lab (ix2 (rowAt n (j 1)) (j 2))

theorem lanesPay_apply (row0 : BitVec 32) (labs : IVec S16 32) (x : Vec F S1x1x16 .f32) (k : S1x1x16.Idx) :
    lanesPay marginV row0 labs x k
      = gval (x k) (labs (fun | ⟨0, _⟩ => k 2)) row0 := by
  have h0 : (k 0).val < 1 := (k 0).isLt
  have h1 : (k 1).val < 1 := (k 1).isLt
  unfold lanesPay
  refine (shapeCast_apply _ _ k (fun | ⟨0, _⟩ => k 2) ?_).trans ?_
  · refine (Shape.rowMajor_val_one _).trans (Eq.trans ?_ (Shape.rowMajor_val_three _).symm)
    show (k 2).val = ((k 0).val * 1 + (k 1).val) * 16 + (k 2).val
    omega
  · have e : shapeCast S16 x shapeCasts_S1x1x16_S16 (fun | ⟨0, _⟩ => k 2) = x k := by
      refine shapeCast_apply _ _ _ k ?_
      refine (Shape.rowMajor_val_three _).trans (Eq.trans ?_ (Shape.rowMajor_val_one _).symm)
      show ((k 0).val * 1 + (k 1).val) * 16 + (k 2).val = (k 2).val
      omega
    unfold gval
    rw [← e]
    rfl

end Cert.Proof.Tile

end
-- ==== Proof.Setup.lean ====
/-
  The launch's set-up, and the rules of the tile's four transfers: a slot's copy in, its wait, its copy out and its wait, each
  stated once at a symbolic slot and chunk, from what the slot holds before to what it holds after.
-/
module

public import proofs.«01_k».proof.Proof.Places

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Locations -/

abbrev thr (d : Dev nD) (i : grid0.Coords) : Thread nD τ := V d ((i 0).castLE hcore0) ((i 1).castLE hsub0)

abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1
abbrev lbLoc (d : Dev nD) (i : grid0.Coords) : Loc nD τ sig := (thr d i).loc cc0_scratch0
abbrev ibLoc (d : Dev nD) (i : grid0.Coords) : Loc nD τ sig := (thr d i).loc cc0_scratch1
abbrev obLoc (d : Dev nD) (i : grid0.Coords) : Loc nD τ sig := (thr d i).loc cc0_scratch2

variable [FloatOps F]

/-- A tile program's weakest precondition at its thread. -/
abbrev tileWp (d : Dev nD) (i : grid0.Coords) (p : TP F i PUnit) (Q : PUnit → sProp 𝕄) : sProp 𝕄 :=
  wp frame (wpE (defs₀ (F := F)) 𝒱₀ (thr d i) none) Set.univ p Q

variable (d : Dev nD) (i : grid0.Coords) (b : Fin 6)

/-! ## What a wait may do -/

variable (O : CellTallies nD τ sig (HIx 1)) (W : Waits sig (HIx 1))

/-- What is owed, after waits of the tile's own. -/
abbrev Owe : sProp 𝕄 := iprop(∃ W' : Waits sig (HIx 1), ⌜∀ p ∈ W', p ∈ W ∨ p.2 = none⌝ ∗ owes (thr d i) O W')

/-- The right to wait, and what is owed. -/
abbrev May : sProp 𝕄 := iprop(Transfers.MayWaits (thr d i) (default : HIx 1) O ∗ Owe (F := F) d i O W)

/-- A wait's rule from a flight, the bookkeeping kept inside `May`. -/
theorem wp_wait {sp sp' : Space} {s s' : Shape} {e e' : EltTy} {κ' : Kind} {sem : DmaSem sig}
    {srcw : Memref sig (thr d i).2.kind sp' s' e'} {dstw : Memref sig κ' sp s e} {hsrc : srcw.view.WordExact}
    {hdst : dstw.view.WordExact} {N : ℕ} (hN : dstw.view.dmaCredit = N) {R : sProp 𝕄} (kk : TP F i PUnit) (Q : PUnit → sProp 𝕄) :
    iprop(Transfers.Flight countersEmb (thr d i) (.dma sem) (default : HIx 1) N R ∗ May (F := F) d i O W)
      ⊢ iprop((iprop(R ∗ semVal (thr d i, .dma sem) 0 ∗ May (F := F) d i O W) -∗ tileWp d i kk Q)
          -∗ tileWp d i (.op (.waitDma2 sem srcw dstw hsrc hdst) fun _ => kk) Q) := by
  iintro ⟨Hf, #Hm, %W', %hW, HO⟩ Hk
  iapply (Transfers.wp_waitLocalO countersEmb 𝒱₀ (thr d i) none (default : HIx 1) hN) $$ [Hf HO]
  · isplitl [Hf]; · iexact Hf
    isplitl [HO]; · iexact HO
    iapply (Transfers.MayWaits.elim (SemLoc.dma sem)) $$ Hm
  iintro ⟨HR, Hs, HO⟩
  iapply Hk
  isplitl [HR]; · iexact HR
  isplitl [Hs]; · iexact Hs
  isplitr; · iexact Hm
  iexists _
  isplitr
  swap; · iexact HO
  ipureintro
  intro p hp
  rcases Finset.mem_insert.mp hp with hp | hp
  · exact .inr (hp ▸ rfl)
  · exact hW p hp

/-! ## The copies in -/

variable (q : PosShare TreeShare) (xt : S100000x1024.Idx → F .f32) (lab : S1024.Idx → BitVec 32)

abbrev nIn : ℕ := (slotOf ibufV b).view.dmaCredit
abbrev nOut : ℕ := (rows outV ![0, 0] off0_inb).view.dmaCredit

/-- Slot `b` of the input buffer, free. -/
abbrev InFree : sProp 𝕄 :=
  iprop((∃ f : Buf (Elt F) (ibLoc d i), ibLoc d i ↦[slotSet b]{fullShare} f) ∗ semVal (thr d i, .dma (isem b)) 0
    ∗ (xLoc d ↦{q} (xt : Buf (Elt F) (xLoc d))))

/-- Slot `b` of the input buffer, chunk `n` on its way in. -/
abbrev InFly (n : ℕ) : sProp 𝕄 :=
  iprop(Transfers.Flight countersEmb (thr d i) (.dma (isem b)) (default : HIx 1) (nIn b)
      iprop((ibLoc d i ↦[slotSet b]{fullShare} (XB xt n : Buf (Elt F) (ibLoc d i)))
        ∗ (xLoc d ↦[chunkSet n]{q} (xt : Buf (Elt F) (xLoc d))))
    ∗ (xLoc d ↦[Finset.univ \ chunkSet n]{q} (xt : Buf (Elt F) (xLoc d))))

theorem write_in {o : Fin 2 → ℕ} {h : ∀ a, o a + S8x1024.size a ≤ S100000x1024.size a} {n : ℕ} (ho : o = ![8 * n, 0])
    (f : Buf (Elt F) (ibLoc d i)) : ∀ j ∈ slotSet b,
      ((slotOf ibufV b).view.write (Elt F) f ((rows xtV o h).view.read (Elt F) (xt : Buf (Elt F) (xLoc d))) Finset.univ) j
        = XB xt n j := by
  intro j hj
  obtain ⟨k, rfl⟩ := slot_cover hj
  refine (View.write_emb_of_mem (v := (slotOf ibufV b).view) (Val := Elt F) f _ (Finset.mem_univ k)).trans ?_
  show xt (rowsEmb o h k) = _
  rw [rowsEmb_eq ho, slotEmb_eq]
  rfl

theorem wp_startIn {o : Fin 2 → ℕ} {h : ∀ a, o a + S8x1024.size a ≤ S100000x1024.size a} {n : ℕ} (ho : o = ![8 * n, 0])
    (kk : TP F i PUnit) (Q : PUnit → sProp 𝕄) :
    InFree d i b q xt ⊢ iprop((InFly d i b q xt n -∗ tileWp d i kk Q)
      -∗ tileWp d i (do startIn i b o h; kk) Q) := by
  iintro ⟨⟨%f, Hb⟩, Hs, Hx⟩ Hk
  ihave Hx' := (pointsTo_split_subset (q := q) (f := (xt : Buf (Elt F) (xLoc d))) (S := Finset.univ)
    (Finset.subset_univ (chunkSet n))).1 $$ Hx
  icases Hx' with ⟨Hx, Hr⟩
  have key := Transfers.wp_dmaLocal countersEmb 𝒱₀ (thr d i) none (defs := defs₀ (F := F)) (src := rows xtV o h) (via := .same)
    (dst := slotOf ibufV b) (sm := .dma (isem b)) (hsrc := View.wordExact_bits rfl) (hdst := (View.wordExact_bits rfl).reshape _ _)
    (hsem := ⟨Or.inl rfl, trivial⟩) (k := fun _ => kk) (Q := Q) (q := q) (fs := (xt : Buf (Elt F) (xLoc d))) (Sd := slotSet b) (fd := f)
    (default : HIx 1) (nIn b) rfl (View.dmaCredit_pos _ (by decide)) (set_islot b).le
  rw [set_xrows ho] at key
  iapply key $$ [Hb Hs Hx]
  · isplitl [Hx]; · iexact Hx
    isplitl [Hb]; · iexact Hb
    iexact Hs
  iintro Hf
  iapply Hk
  isplitl [Hf]
  swap; · iexact Hr
  iapply (Transfers.Flight_mono countersEmb (thr d i) (sep_mono_left (Eq.le (pointsTo_congr (write_in d i b xt ho f))))) $$ Hf

theorem wp_waitIn (n : ℕ) (kk : TP F i PUnit) (Q : PUnit → sProp 𝕄) :
    iprop(InFly d i b q xt n ∗ May (F := F) d i O W)
      ⊢ iprop((iprop((ibLoc d i ↦[slotSet b]{fullShare} (XB xt n : Buf (Elt F) (ibLoc d i))) ∗ semVal (thr d i, .dma (isem b)) 0
          ∗ (xLoc d ↦{q} (xt : Buf (Elt F) (xLoc d))) ∗ May (F := F) d i O W) -∗ tileWp d i kk Q)
        -∗ tileWp d i (do waitIn i b; kk) Q) := by
  iintro ⟨⟨Hf, Hr⟩, Hm⟩ Hk
  have key := wp_wait d i O W (sem := isem b) (srcw := rows xtV ![0, 0] off0_inb) (dstw := slotOf ibufV b) (hsrc := View.wordExact_bits rfl)
    (hdst := (View.wordExact_bits rfl).reshape _ _) (N := nIn b) rfl
    (R := iprop((ibLoc d i ↦[slotSet b]{fullShare} (XB xt n : Buf (Elt F) (ibLoc d i)))
        ∗ (xLoc d ↦[chunkSet n]{q} (xt : Buf (Elt F) (xLoc d))))) kk Q
  iapply key $$ [Hf Hm]
  · isplitl [Hf]; · iexact Hf
    iexact Hm
  iintro ⟨⟨Hb, Hx⟩, Hs, Hm⟩
  iapply Hk
  isplitl [Hb]; · iexact Hb
  isplitl [Hs]; · iexact Hs
  isplitl [Hx Hr]
  · iapply (pointsTo_split_subset (q := q) (f := (xt : Buf (Elt F) (xLoc d))) (S := Finset.univ)
      (Finset.subset_univ (chunkSet n))).2
    isplitl [Hx]; · iexact Hx
    iexact Hr
  iexact Hm

/-! ## The copies out -/

variable (o₀ : S100000x1024.Idx → F .f32)

theorem out_congr {S : Finset S100000x1024.Idx} {p : PosShare TreeShare} {f g : S100000x1024.Idx → F .f32}
    (h : ∀ j ∈ S, f j = g j) :
    (oLoc d ↦[S]{p} (f : Buf (Elt F) (oLoc d)) : sProp 𝕄) ⊢ (oLoc d ↦[S]{p} (g : Buf (Elt F) (oLoc d))) :=
  Eq.le (pointsTo_congr h)

/-- The elements of the result that slot `b` of the tile's writes. -/
def outSet : Finset S100000x1024.Idx :=
  Finset.univ.filter fun j => (j 0).val / 8 % 32 = wid i ∧ (j 0).val / 8 / 32 % 6 = b.val

/-- The chunk slot `b` moves on trip `n`. -/
abbrev chunkOf (n : ℕ) : ℕ := wid i + 32 * (6 * n + b.val)

theorem chunk_sub (n : ℕ) : chunkSet (chunkOf i b n) ⊆ outSet i b := by
  intro j hj
  have h := mem_chunkSet.mp hj
  have hw := wid_lt i
  have hb := b.isLt
  refine Finset.mem_filter.mpr ⟨Finset.mem_univ _, ?_, ?_⟩ <;> rw [h] <;> unfold chunkOf <;> omega

/-- The result after `n` of the slot's trips. -/
def H (n : ℕ) : S100000x1024.Idx → F .f32 := fun j => if (j 0).val / 8 / 32 / 6 < n then G xt lab j else o₀ j

theorem H_chunk (n : ℕ) : ∀ j ∈ chunkSet (chunkOf i b n), H xt lab o₀ (n + 1) j = G xt lab j := by
  intro j hj
  have h := mem_chunkSet.mp hj
  have hw := wid_lt i
  have hb := b.isLt
  have hlt : (j 0).val / 8 / 32 / 6 < n + 1 := by rw [h]; unfold chunkOf; omega
  unfold H
  rw [if_pos hlt]

theorem H_rest (n : ℕ) : ∀ j ∈ outSet i b \ chunkSet (chunkOf i b n), H xt lab o₀ n j = H xt lab o₀ (n + 1) j := by
  intro j hj
  obtain ⟨hj, hn⟩ := Finset.mem_sdiff.mp hj
  obtain ⟨-, h1, h2⟩ := Finset.mem_filter.mp hj
  have hne : (j 0).val / 8 / 32 / 6 ≠ n := by
    intro e
    refine hn (mem_chunkSet.mpr ?_)
    unfold chunkOf
    omega
  unfold H
  by_cases hlt : (j 0).val / 8 / 32 / 6 < n
  · rw [if_pos hlt, if_pos (by omega)]
  · rw [if_neg hlt, if_neg (by omega)]

/-- What slot `b` of the output buffer holds of the result, after `n` trips, nothing on its way. -/
abbrev OutRest (n : ℕ) : sProp 𝕄 :=
  iprop(semVal (thr d i, .dma (osem b)) 0 ∗ (oLoc d ↦[outSet i b]{fullShare} (H xt lab o₀ n : Buf (Elt F) (oLoc d))))

/-- The slot of the buffer itself, at whatever it holds. -/
abbrev OutBuf : sProp 𝕄 := iprop(∃ f : Buf (Elt F) (obLoc d i), obLoc d i ↦[slotSet b]{fullShare} f)

/-- Slot `b` of the output buffer, its trip `n`'s chunk on its way out. -/
abbrev OutFly (n : ℕ) : sProp 𝕄 :=
  iprop(Transfers.Flight countersEmb (thr d i) (.dma (osem b)) (default : HIx 1) nOut
      iprop((oLoc d ↦[chunkSet (chunkOf i b n)]{fullShare} (G xt lab : Buf (Elt F) (oLoc d))) ∗ OutBuf (F := F) d i b)
    ∗ (oLoc d ↦[outSet i b \ chunkSet (chunkOf i b n)]{fullShare} (H xt lab o₀ (n + 1) : Buf (Elt F) (oLoc d))))

theorem write_out {o : Fin 2 → ℕ} {h : ∀ a, o a + S8x1024.size a ≤ S100000x1024.size a} {n : ℕ} (ho : o = ![8 * n, 0])
    (f : Buf (Elt F) (oLoc d)) (g : Buf (Elt F) (obLoc d i)) (hg : ∀ j ∈ slotSet b, g j = OB xt lab n j) :
    ∀ j ∈ chunkSet n, ((rows outV o h).view.write (Elt F) f ((slotOf obufV b).view.read (Elt F) g) Finset.univ) j = G xt lab j := by
  intro j hj
  obtain ⟨k, rfl⟩ := rows_cover (h := h) ho hj
  refine (View.write_emb_of_mem (v := (rows outV o h).view) (Val := Elt F) f _ (Finset.mem_univ k)).trans ?_
  refine (hg _ (slotEmb_mem b k)).trans ?_
  rw [rowsEmb_eq ho, slotEmb_eq]
  rfl

theorem wp_startOut {o : Fin 2 → ℕ} {h : ∀ a, o a + S8x1024.size a ≤ S100000x1024.size a} {n : ℕ} (ho : o = ![8 * chunkOf i b n, 0])
    (g : Buf (Elt F) (obLoc d i)) (hg : ∀ j ∈ slotSet b, g j = OB xt lab (chunkOf i b n) j)
    (kk : TP F i PUnit) (Q : PUnit → sProp 𝕄) :
    iprop((obLoc d i ↦[slotSet b]{fullShare} g) ∗ OutRest d i b xt lab o₀ n)
      ⊢ iprop((OutFly d i b xt lab o₀ n -∗ tileWp d i kk Q) -∗ tileWp d i (do startOut i b o h; kk) Q) := by
  iintro ⟨Hb, Hs, Hx⟩ Hk
  ihave Hx' := (pointsTo_split_subset (q := fullShare) (f := (H xt lab o₀ n : Buf (Elt F) (oLoc d))) (S := outSet i b)
    (chunk_sub i b n)).1 $$ Hx
  icases Hx' with ⟨Hx, Hr⟩
  have key := Transfers.wp_dmaLocal countersEmb 𝒱₀ (thr d i) none (defs := defs₀ (F := F)) (src := slotOf obufV b) (via := .same)
    (dst := rows outV o h) (sm := .dma (osem b)) (hsrc := (View.wordExact_bits rfl).reshape _ _) (hdst := View.wordExact_bits rfl)
    (hsem := ⟨Or.inl rfl, trivial⟩) (k := fun _ => kk) (Q := Q) (q := fullShare) (fs := g) (Sd := chunkSet (chunkOf i b n))
    (fd := (H xt lab o₀ n : Buf (Elt F) (oLoc d)))
    (default : HIx 1) nOut rfl (View.dmaCredit_pos _ (by decide)) (set_orows ho).le
  rw [set_oslot] at key
  iapply key $$ [Hb Hs Hx]
  · isplitl [Hb]; · iexact Hb
    isplitl [Hx]; · iexact Hx
    iexact Hs
  iintro Hf
  iapply Hk
  isplitl [Hf]
  · iapply (Transfers.Flight_mono countersEmb (thr d i) (BI.sep_mono (Eq.le (pointsTo_congr (write_out d i b xt lab ho _ g hg)))
      (show _ ⊢ OutBuf (F := F) d i b from by iintro H; iexists g; iexact H))) $$ Hf
  · iapply (out_congr d (H_rest i b xt lab o₀ n)) $$ Hr

theorem wp_waitOut (n : ℕ) (kk : TP F i PUnit) (Q : PUnit → sProp 𝕄) :
    iprop(OutFly d i b xt lab o₀ n ∗ May (F := F) d i O W)
      ⊢ iprop((iprop(OutBuf (F := F) d i b ∗ OutRest d i b xt lab o₀ (n + 1) ∗ May (F := F) d i O W) -∗ tileWp d i kk Q)
        -∗ tileWp d i (do waitOut i b; kk) Q) := by
  iintro ⟨⟨Hf, Hr⟩, Hm⟩ Hk
  have key := wp_wait d i O W (sem := osem b) (srcw := slotOf obufV b) (dstw := rows outV ![0, 0] off0_inb)
    (hsrc := (View.wordExact_bits rfl).reshape _ _) (hdst := View.wordExact_bits rfl) (N := nOut) rfl
    (R := iprop((oLoc d ↦[chunkSet (chunkOf i b n)]{fullShare} (G xt lab : Buf (Elt F) (oLoc d))) ∗ OutBuf (F := F) d i b)) kk Q
  iapply key $$ [Hf Hm]
  · isplitl [Hf]; · iexact Hf
    iexact Hm
  iintro ⟨⟨Hx, Hb⟩, Hs, Hm⟩
  iapply Hk
  isplitl [Hb]; · iexact Hb
  isplitl [Hs Hx Hr]
  · isplitl [Hs]; · iexact Hs
    iapply (pointsTo_split_subset (q := fullShare) (f := (H xt lab o₀ (n + 1) : Buf (Elt F) (oLoc d))) (S := outSet i b)
      (chunk_sub i b n)).2
    isplitl [Hx]
    · iapply (out_congr d fun j hj => (H_chunk i b xt lab o₀ n j hj).symm) $$ Hx
    iexact Hr
  iexact Hm

end Cert.Proof.Tile

end
-- ==== Proof.Group.lean ====
/-
  The arithmetic of one chunk: a row of a group of lanes, a group, and the loop over the groups.  The one invariant counts the
  rows of lanes done: those before the count hold the result.
-/
module

public import proofs.«01_k».proof.Proof.Setup

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (b : Fin 6)
variable (xt : S100000x1024.Idx → F .f32) (lab : S1024.Idx → BitVec 32)

/-- The lanes before row-of-lanes `p` hold the result of chunk `n`. -/
def Done (n p : ℕ) (f : S6x8x1024.Idx → F .f32) : Prop :=
  ∀ j ∈ slotSet b, 8 * ((j 2).val / 16) + (j 1).val < p → f j = OB xt lab n j

/-- The slot's two buffers, `p` rows of lanes done. -/
abbrev Rows (n p : ℕ) : sProp 𝕄 :=
  iprop((ibLoc d i ↦[slotSet b]{fullShare} (XB xt n : Buf (Elt F) (ibLoc d i)))
    ∗ ∃ f : Buf (Elt F) (obLoc d i), (obLoc d i ↦[slotSet b]{fullShare} f) ∗ ⌜Done b xt lab n p f⌝)

theorem lanes_mem (lr : Fin 8) (g : Fin k0_t2_loop.trips) (k : S1x1x16.Idx) : (lanes b lr g).emb k ∈ slotSet b :=
  mem_slotSet.2 (lanes_emb b lr g k).1

theorem set_ilanes (lr : Fin 8) (g : Fin k0_t2_loop.trips) : (ibufV.access (lanes b lr g)).set ⊆ slotSet b := by
  intro j hj
  obtain ⟨k, -, rfl⟩ := Finset.mem_map.1 hj
  exact lanes_mem b lr g k
theorem set_olanes (lr : Fin 8) (g : Fin k0_t2_loop.trips) : (obufV.access (lanes b lr g)).set ⊆ slotSet b := by
  intro j hj
  obtain ⟨k, -, rfl⟩ := Finset.mem_map.1 hj
  exact lanes_mem b lr g k

theorem row_step {n : ℕ} (hn : n ≤ 12499) (lr : Fin 8) (g : Fin k0_t2_loop.trips) (labs : IVec S16 32)
    (hl : ∀ (k : S16.Idx) (c : Fin 1024), c.val = 16 * g.val + (k 0).val → labs k = lab (ix1 c))
    (f : Buf (Elt F) (obLoc d i)) (hf : Done b xt lab n (8 * g.val + lr.val) f) :
    Done b xt lab n (8 * g.val + lr.val + 1) ((obufV.access (lanes b lr g)).write (Elt F) f
      (lanesPay marginV (Scalar.addi (BitVec.ofNat 32 (8 * n)) (BitVec.ofNat 32 lr.val)) labs
        ((ibufV.access (lanes b lr g)).read (Elt F) (XB xt n : Buf (Elt F) (ibLoc d i)))) Finset.univ) := by
  intro j hj hp
  by_cases h : (j 1).val = lr.val ∧ (j 2).val / 16 = g.val
  · obtain ⟨k, rfl⟩ := lanes_cover (mem_slotSet.1 hj) h.1 h.2
    refine (View.write_emb_of_mem (v := obufV.access (lanes b lr g)) (Val := Elt F) f _ (Finset.mem_univ k)).trans ?_
    refine (lanesPay_apply _ _ _ k).trans ?_
    obtain ⟨e0, e1, e2⟩ := lanes_emb b lr g k
    refine (congrArg (fun l => gval _ l _) (hl (fun | ⟨0, _⟩ => k 2) ((lanes b lr g).emb k 2) e2)).trans ?_
    show gval (XB xt n ((lanes b lr g).emb k)) _ _ = gval _ _ (BitVec.ofNat 32 ((8 * n + ((lanes b lr g).emb k 1).val) % 100000))
    rw [e1, Nat.mod_eq_of_lt (by have := lr.isLt; omega), BitVec.ofNat_add]
    rfl
  · refine (View.write_of_not_mem (v := obufV.access (lanes b lr g)) (Val := Elt F) f _ _ (fun hm => h ?_)).trans (hf j hj ?_)
    · obtain ⟨k, -, rfl⟩ := Finset.mem_map.1 hm
      obtain ⟨e0, e1, e2⟩ := lanes_emb b lr g k
      have hk : (k 2).val < 16 := (k 2).isLt
      exact ⟨e1, show ((lanes b lr g).emb k 2).val / 16 = g.val by rw [e2]; omega⟩
    · have h8 : (j 1).val < 8 := (j 1).isLt
      have := lr.isLt
      omega

theorem wp_row {n : ℕ} (hn : n ≤ 12499) (lr : Fin 8) (g : Fin k0_t2_loop.trips) (labs : IVec S16 32)
    (hl : ∀ (k : S16.Idx) (c : Fin 1024), c.val = 16 * g.val + (k 0).val → labs k = lab (ix1 c))
    (kk : TP F i PUnit) (Q : PUnit → sProp 𝕄) :
    Rows d i b xt lab n (8 * g.val + lr.val)
      ⊢ iprop((Rows d i b xt lab n (8 * g.val + lr.val + 1) -∗ tileWp d i kk Q)
        -∗ tileWp d i (do rowOp i marginV b g (BitVec.ofNat 32 (8 * n)) labs lr; kk) Q) := by
  iintro ⟨Hi, %f, Ho, %hf⟩ Hk
  have k3 : ∀ x : Vec F S1x1x16 .f32, _ := fun x => wp_store 𝒱₀ (thr d i) none (Γ := .empty) (defs := defs₀ (F := F)) Set.univ (m := obufV) (r := lanes b lr g)
    (w := lanesPay marginV (Scalar.addi (BitVec.ofNat 32 (8 * n)) (BitVec.ofNat 32 lr.val)) labs x) (Mk := Finset.univ)
    (hx := View.stores_vmem_bits_univ h_S1x1x16 rfl) (hm := .inl rfl) (k := fun _ => kk) (Q := Q) (f := f) (S := slotSet b) (set_olanes b lr g)
  have k2 : ∀ x : Vec F S1x1x16 .f32, _ := fun x => wp_load_rect 𝒱₀ (thr d i) none (Γ := .empty) (defs := defs₀ (F := F)) Set.univ (m := obufV) (r := lanes b lr g)
    (hl := View.loadsAt_vmem h_S1x1x16) (k := fun _ => .op (.store obufV (lanes b lr g)
      (lanesPay marginV (Scalar.addi (BitVec.ofNat 32 (8 * n)) (BitVec.ofNat 32 lr.val)) labs x) Finset.univ
      (View.stores_vmem_bits_univ h_S1x1x16 rfl) (.inl rfl)) fun _ => kk) (Q := Q) (q := fullShare) (f := f) (S := slotSet b) (set_olanes b lr g)
  have k1 := wp_load_rect 𝒱₀ (thr d i) none (Γ := .empty) (defs := defs₀ (F := F)) Set.univ (m := ibufV) (r := lanes b lr g)
    (hl := View.loadsAt_vmem h_S1x1x16) (k := fun x => .op (.load obufV (lanes b lr g).toLoadRect (View.loadsAt_vmem h_S1x1x16)) fun _ =>
      .op (.store obufV (lanes b lr g)
      (lanesPay marginV (Scalar.addi (BitVec.ofNat 32 (8 * n)) (BitVec.ofNat 32 lr.val)) labs x) Finset.univ
      (View.stores_vmem_bits_univ h_S1x1x16 rfl) (.inl rfl)) fun _ => kk) (Q := Q) (q := fullShare)
    (f := (XB xt n : Buf (Elt F) (ibLoc d i))) (S := slotSet b) (set_ilanes b lr g)
  iapply k1 $$ Hi
  iintro Hi
  iapply k2 _ $$ Ho
  iintro Ho
  iapply k3 _ $$ Ho
  iintro Ho
  iapply Hk
  isplitl [Hi]; · iexact Hi
  iexists _
  isplitl [Ho]; · iexact Ho
  ipureintro
  exact row_step d i b xt lab hn lr g labs hl f hf

/-- The labels the tile keeps. -/
abbrev Labs : sProp 𝕄 := iprop(lbLoc d i ↦{fullShare} (lab : Buf (Elt F) (lbLoc d i)))

theorem labs_read (g : Fin k0_t2_loop.trips) (k : S16.Idx) (c : Fin 1024) (hc : c.val = 16 * g.val + (k 0).val) :
    shapeCast S16 ((lbufV.access (Rect.unit (s := S1024) (k0_off2 g) S16.size (offL_inb g))).read (Elt F) (lab : Buf (Elt F) (lbLoc d i)))
      shapeCasts_S16_S16 k = lab (ix1 c) := by
  refine (congrFun (shapeCast_self _ _) k).trans ?_
  refine congrArg lab ?_
  funext a
  match a with
  | ⟨0, _⟩ =>
    apply Fin.ext
    show k0_off2 g 0 + 1 * (k 0).val = c.val
    rw [offL_eq, hc]
    show 16 * g.val + 1 * (k 0).val = _
    omega

theorem wp_group {n : ℕ} (hn : n ≤ 12499) (g : Fin k0_t2_loop.trips) :
    iprop(Labs d i lab ∗ Rows d i b xt lab n (8 * g.val))
      ⊢ tileWp d i (groupOp i marginV b (BitVec.ofNat 32 (8 * n)) g) fun _ =>
        iprop(Labs d i lab ∗ Rows d i b xt lab n (8 * (g.val + 1))) := by
  iintro ⟨Hl, Hr⟩
  have k1 := wp_load_rect 𝒱₀ (thr d i) none (Γ := .empty) (defs := defs₀ (F := F)) Set.univ (m := lbufV)
    (r := Rect.unit (s := S1024) (k0_off2 g) S16.size (offL_inb g)) (hl := View.loadsAt_vmem h_S16)
    (k := fun l : Vec F S16 .i32 => (do
      have labs : IVec S16 32 := shapeCast S16 l shapeCasts_S16_S16
      rowOp (F := F) i marginV b g (BitVec.ofNat 32 (8 * n)) labs 0
      rowOp i marginV b g (BitVec.ofNat 32 (8 * n)) labs 1
      rowOp i marginV b g (BitVec.ofNat 32 (8 * n)) labs 2
      rowOp i marginV b g (BitVec.ofNat 32 (8 * n)) labs 3
      rowOp i marginV b g (BitVec.ofNat 32 (8 * n)) labs 4
      rowOp i marginV b g (BitVec.ofNat 32 (8 * n)) labs 5
      rowOp i marginV b g (BitVec.ofNat 32 (8 * n)) labs 6
      rowOp i marginV b g (BitVec.ofNat 32 (8 * n)) labs 7
      pure ⟨⟩ : TP F i PUnit))
    (Q := fun _ => iprop(Labs d i lab ∗ Rows d i b xt lab n (8 * (g.val + 1)))) (q := fullShare)
    (f := (lab : Buf (Elt F) (lbLoc d i))) (S := Finset.univ) (Finset.subset_univ _)
  iapply k1 $$ Hl
  iintro Hl
  iapply (wp_row d i b xt lab hn 0 g _ (labs_read lab g)) $$ Hr
  iintro Hr
  iapply (wp_row d i b xt lab hn 1 g _ (labs_read lab g)) $$ Hr
  iintro Hr
  iapply (wp_row d i b xt lab hn 2 g _ (labs_read lab g)) $$ Hr
  iintro Hr
  iapply (wp_row d i b xt lab hn 3 g _ (labs_read lab g)) $$ Hr
  iintro Hr
  iapply (wp_row d i b xt lab hn 4 g _ (labs_read lab g)) $$ Hr
  iintro Hr
  iapply (wp_row d i b xt lab hn 5 g _ (labs_read lab g)) $$ Hr
  iintro Hr
  iapply (wp_row d i b xt lab hn 6 g _ (labs_read lab g)) $$ Hr
  iintro Hr
  iapply (wp_row d i b xt lab hn 7 g _ (labs_read lab g)) $$ Hr
  iintro Hr
  iapply (le_wp_ret _ _ _ _)
  isplitl [Hl]; · iexact Hl
  iexact Hr

end Cert.Proof.Tile

end
-- ==== Proof.Step.lean ====
/-
  The ring of slots: a chunk's step, and a trip.  A slot's state is a function of the trips done; the step is proved for one
  symbolic slot and run over the six by one rule.
-/
module

public import proofs.«01_k».proof.Proof.Group

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (b : Fin 6)
variable (O : CellTallies nD τ sig (HIx 1)) (W : Waits sig (HIx 1))
variable (qs : Fin 6 → PosShare TreeShare) (xt : S100000x1024.Idx → F .f32) (lab : S1024.Idx → BitVec 32)
variable (o₀ : S100000x1024.Idx → F .f32)

/-! ## Programs in sequence -/

theorem wp_then {P R : sProp 𝕄} {p : TP F i PUnit} (h : P ⊢ tileWp d i p fun _ => R) (kk : TP F i PUnit) (Q : PUnit → sProp 𝕄) :
    P ⊢ iprop((R -∗ tileWp d i kk Q) -∗ tileWp d i (do p; kk) Q) := by
  unfold tileWp
  rw [wp_bind]
  iintro HP HK
  ihave Hp := h $$ HP
  iapply (wp_wand _ _ _) $$ Hp
  iintro %a HR
  iapply HK $$ HR

theorem wp_last {P R : sProp 𝕄} {p : TP F i PUnit}
    (h : ∀ Q : PUnit → sProp 𝕄, P ⊢ iprop((R -∗ tileWp d i (pure ⟨⟩) Q) -∗ tileWp d i p Q)) : P ⊢ tileWp d i p fun _ => R := by
  iintro HP
  iapply (h _) $$ HP
  iintro HR
  iapply (le_wp_ret _ _ _ _)
  iexact HR

theorem bigSep_six (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

/-- A step that takes each slot from `A` to `B`, beside what all the steps share, takes all six. -/
theorem wp_chain {f : Fin 6 → TP F i PUnit → TP F i PUnit} {A B : Fin 6 → sProp 𝕄} {E : sProp 𝕄}
    (h : ∀ (b : Fin 6) (kk : TP F i PUnit) (Q : PUnit → sProp 𝕄),
      iprop(A b ∗ E) ⊢ iprop((iprop(B b ∗ E) -∗ tileWp d i kk Q) -∗ tileWp d i (f b kk) Q))
    (kk : TP F i PUnit) (Q : PUnit → sProp 𝕄) :
    iprop(bigSep Finset.univ A ∗ E)
      ⊢ iprop((iprop(bigSep Finset.univ B ∗ E) -∗ tileWp d i kk Q) -∗ tileWp d i (chain f kk) Q) := by
  rw [bigSep_six, bigSep_six]
  unfold chain
  iintro ⟨⟨A0, A1, A2, A3, A4, A5⟩, E⟩ HK
  iapply (h 0 _ Q) $$ [A0 E]
  · isplitl [A0]; · iexact A0
    iexact E
  iintro ⟨B0, E⟩
  iapply (h 1 _ Q) $$ [A1 E]
  · isplitl [A1]; · iexact A1
    iexact E
  iintro ⟨B1, E⟩
  iapply (h 2 _ Q) $$ [A2 E]
  · isplitl [A2]; · iexact A2
    iexact E
  iintro ⟨B2, E⟩
  iapply (h 3 _ Q) $$ [A3 E]
  · isplitl [A3]; · iexact A3
    iexact E
  iintro ⟨B3, E⟩
  iapply (h 4 _ Q) $$ [A4 E]
  · isplitl [A4]; · iexact A4
    iexact E
  iintro ⟨B4, E⟩
  iapply (h 5 _ Q) $$ [A5 E]
  · isplitl [A5]; · iexact A5
    iexact E
  iintro ⟨B5, E⟩
  iapply HK
  isplitr [E]
  swap; · iexact E
  isplitl [B0]; · iexact B0
  isplitl [B1]; · iexact B1
  isplitl [B2]; · iexact B2
  isplitl [B3]; · iexact B3
  isplitl [B4]; · iexact B4
  iexact B5

/-! ## A slot's state -/

/-- How many chunks slot `b` of the tile moves. -/
def cnt : ℕ := (myT i + 5 - b.val) / 6

theorem lt_cnt (t : ℕ) : 6 * t + b.val < myT i ↔ t < cnt i b := by
  have := b.isLt
  unfold cnt; omega

theorem cnt_pos : 0 < cnt i b := by
  have := myT_le i
  have := b.isLt
  unfold cnt; omega

theorem cnt_le : cnt i b ≤ k0_t1_loop.trips := by
  have := myT_le i
  rw [trips1]
  unfold cnt; omega

theorem chunk_lt {t : ℕ} (h : t < cnt i b) : chunkOf i b t ≤ 12499 := row_lt ((lt_cnt i b t).2 h)

/-- Slot `b` of the input buffer before trip `t`. -/
def In (t : ℕ) : sProp 𝕄 := if t < cnt i b then InFly d i b (qs b) xt (chunkOf i b t) else InFree d i b (qs b) xt

/-- Slot `b` of the output buffer after `n` of its chunks. -/
def Out : ℕ → sProp 𝕄
  | 0 => iprop(OutBuf (F := F) d i b ∗ OutRest d i b xt lab o₀ 0)
  | n + 1 => OutFly d i b xt lab o₀ n

theorem Out_zero : Out d i b xt lab o₀ 0 = iprop(OutBuf (F := F) d i b ∗ OutRest d i b xt lab o₀ 0) := rfl
theorem Out_succ (n : ℕ) : Out d i b xt lab o₀ (n + 1) = OutFly d i b xt lab o₀ n := rfl

/-- Slot `b` before trip `t`. -/
abbrev Slot (t : ℕ) : sProp 𝕄 := iprop(In d i b qs xt t ∗ Out d i b xt lab o₀ (min t (cnt i b)))

/-- What the steps share: the labels and the right to wait. -/
abbrev Env : sProp 𝕄 := iprop(Labs d i lab ∗ May (F := F) d i O W)

/-! ## The steps -/

theorem rowBV_eq (t : Fin k0_t1_loop.trips) : rowBV i b t = BitVec.ofNat 32 (8 * chunkOf i b t.val) := by
  apply BitVec.eq_of_toNat_eq
  have hw := wid_lt i
  have hb := b.isLt
  have ht : t.val < 66 := trips1 ▸ t.isLt
  rw [toNat_rowBV, BitVec.toNat_ofNat]
  unfold chunkOf
  omega

theorem wp_groups {n : ℕ} (hn : n ≤ 12499) (kk : TP F i PUnit) (Q : PUnit → sProp 𝕄) :
    iprop(Labs d i lab ∗ Rows d i b xt lab n 0)
      ⊢ iprop((iprop(Labs d i lab ∗ Rows d i b xt lab n 512) -∗ tileWp d i kk Q)
        -∗ tileWp d i (do
          Scf.Loop.for k0_t2_loop k0_t2_abs.1 ⟨⟩ (fun g (_ : PUnit) => groupOp i marginV b (BitVec.ofNat 32 (8 * n)) g)
          kk) Q) := by
  have key := Scf.wp_for_bind frame (wpE (defs₀ (F := F)) 𝒱₀ (thr d i) none) Set.univ k0_t2_loop.lb k0_t2_loop.ub k0_t2_loop.st
    k0_t2_abs.1 (⟨⟩ : PUnit) (fun g (_ : PUnit) => groupOp i marginV b (BitVec.ofNat 32 (8 * n)) g)
    (fun g _ => iprop(Labs d i lab ∗ Rows d i b xt lab n (8 * g))) (fun g _ => wp_group d i b xt lab hn g)
    (kk := fun _ => kk) (Q := Q)
  rw [show (512 : ℕ) = 8 * k0_t2_loop.trips by rw [trips2]]
  refine key.trans ?_
  iintro HK HQ
  iapply HK
  iintro %_ H
  iapply HQ $$ H

theorem wp_outReady {t : Fin k0_t1_loop.trips} (kk : TP F i PUnit) (Q : PUnit → sProp 𝕄) :
    iprop(Out d i b xt lab o₀ t.val ∗ May (F := F) d i O W)
      ⊢ iprop((iprop(OutBuf (F := F) d i b ∗ OutRest d i b xt lab o₀ t.val ∗ May (F := F) d i O W) -∗ tileWp d i kk Q)
        -∗ tileWp d i (do
          if _h2 : condB b t = 1#1 then do
            waitOut i b
            pure ⟨⟩
          else do
            pure ⟨⟩
          kk) Q) := by
  obtain ⟨t, ht⟩ := t
  cases t with
  | zero =>
    rw [dif_neg (fun h => Nat.lt_irrefl _ ((condB_iff b ⟨0, ht⟩).1 h))]
    show iprop(iprop(OutBuf (F := F) d i b ∗ OutRest d i b xt lab o₀ 0) ∗ May (F := F) d i O W) ⊢ _
    iintro ⟨⟨Hb, Ho⟩, Hm⟩ HK
    iapply HK
    isplitl [Hb]; · iexact Hb
    isplitl [Ho]; · iexact Ho
    iexact Hm
  | succ n =>
    rw [dif_pos ((condB_iff b ⟨n + 1, ht⟩).2 (Nat.succ_pos n))]
    exact wp_waitOut d i b O W xt lab o₀ n kk Q

theorem wp_chunk (t : Fin k0_t1_loop.trips) (h : condA i b t = 1#1) :
    iprop(InFly d i b (qs b) xt (chunkOf i b t.val) ∗ Out d i b xt lab o₀ t.val ∗ Env d i O W lab)
      ⊢ tileWp d i (chunkOp i marginV b t h) fun _ =>
        iprop(InFree d i b (qs b) xt ∗ OutFly d i b xt lab o₀ t.val ∗ Env d i O W lab) := by
  have hn : chunkOf i b t.val ≤ 12499 := row_lt ((condA_iff i b t).1 h)
  unfold chunkOp
  rw [rowBV_eq]
  iintro ⟨Hi, Ho, Hl, Hm⟩
  iapply (wp_waitIn d i b O W (qs b) xt (chunkOf i b t.val)) $$ [Hi Hm]
  · isplitl [Hi]; · iexact Hi
    iexact Hm
  iintro ⟨Hi, Hs, Hx, Hm⟩
  iapply (wp_outReady d i b O W xt lab o₀ (t := t)) $$ [Ho Hm]
  · isplitl [Ho]; · iexact Ho
    iexact Hm
  iintro ⟨⟨%f, Hb⟩, Ho, Hm⟩
  iapply (wp_groups d i b xt lab hn) $$ [Hl Hi Hb]
  · isplitl [Hl]; · iexact Hl
    isplitl [Hi]; · iexact Hi
    iexists f
    isplitl [Hb]; · iexact Hb
    ipureintro
    intro j _ hj
    exact absurd hj (Nat.not_lt_zero _)
  iintro ⟨Hl, Hi, %g, Hb, %hg⟩
  iapply (wp_startOut d i b xt lab o₀ (h := offO_inb h) (n := t.val) (offO_eq i b t) g (fun j hj => hg j hj (by
    have h1 : (j 1).val < 8 := (j 1).isLt
    have h2 : (j 2).val < 1024 := (j 2).isLt
    omega))) $$ [Hb Ho]
  · isplitl [Hb]; · iexact Hb
    iexact Ho
  iintro Ho
  iapply (le_wp_ret _ _ _ _)
  isplitl [Hi Hs Hx]
  · isplitl [Hi]; · iexists _; iexact Hi
    isplitl [Hs]; · iexact Hs
    iexact Hx
  isplitl [Ho]; · iexact Ho
  isplitl [Hl]; · iexact Hl
  iexact Hm

theorem wp_step (t : Fin k0_t1_loop.trips) (kk : TP F i PUnit) (Q : PUnit → sProp 𝕄) :
    iprop(Slot d i b qs xt lab o₀ t.val ∗ Env d i O W lab)
      ⊢ iprop((iprop(Slot d i b qs xt lab o₀ (t.val + 1) ∗ Env d i O W lab) -∗ tileWp d i kk Q)
        -∗ tileWp d i (stepOp i marginV t b kk) Q) := by
  unfold stepOp
  by_cases h1 : condA i b t = 1#1
  · have hlt := (lt_cnt i b t.val).1 ((condA_iff i b t).1 h1)
    rw [dif_pos h1]
    unfold Slot In
    rw [if_pos hlt, Nat.min_eq_left (Nat.le_of_lt hlt), Nat.min_eq_left (show t.val + 1 ≤ cnt i b from hlt), Out_succ]
    iintro ⟨⟨Hi, Ho⟩, He⟩ HK
    iapply (wp_then d i (wp_chunk d i b O W qs xt lab o₀ t h1)) $$ [Hi Ho He]
    · isplitl [Hi]; · iexact Hi
      isplitl [Ho]; · iexact Ho
      iexact He
    iintro ⟨Hi, Ho, He⟩
    by_cases h3 : condC i b t = 1#1
    · rw [dif_pos h3, if_pos ((lt_cnt i b (t.val + 1)).1 ((condC_iff i b t).1 h3))]
      iapply (wp_startIn d i b (qs b) xt (h := offI_inb h3) (offI_eq i b t)) $$ Hi
      iintro Hi
      iapply HK
      isplitl [Hi Ho]
      · isplitl [Hi]; · iexact Hi
        iexact Ho
      iexact He
    · rw [dif_neg h3, if_neg (fun h => h3 ((condC_iff i b t).2 ((lt_cnt i b (t.val + 1)).2 h)))]
      iapply HK
      isplitl [Hi Ho]
      · isplitl [Hi]; · iexact Hi
        iexact Ho
      iexact He
  · have hge : ¬ t.val < cnt i b := fun h => h1 ((condA_iff i b t).2 ((lt_cnt i b t.val).2 h))
    rw [dif_neg h1]
    unfold Slot In
    rw [if_neg hge, if_neg (show ¬ t.val + 1 < cnt i b by omega), Nat.min_eq_right (by omega), Nat.min_eq_right (by omega)]
    iintro H HK
    iapply HK $$ H

/-- The six slots before trip `t`. -/
def Slots (t : ℕ) : sProp 𝕄 := bigSep Finset.univ fun b => Slot d i b qs xt lab o₀ t

theorem wp_steps (t : Fin k0_t1_loop.trips) (kk : TP F i PUnit) (Q : PUnit → sProp 𝕄) :
    iprop(bigSep Finset.univ (fun b => Slot d i b qs xt lab o₀ t.val) ∗ Env d i O W lab)
      ⊢ iprop((iprop(bigSep Finset.univ (fun b => Slot d i b qs xt lab o₀ (t.val + 1)) ∗ Env d i O W lab) -∗ tileWp d i kk Q) -∗ tileWp d i (chain (stepOp i marginV t) kk) Q) := by
  refine wp_chain d i (f := stepOp i marginV t) (A := fun b => Slot d i b qs xt lab o₀ t.val) (B := fun b => Slot d i b qs xt lab o₀ (t.val + 1)) (E := Env d i O W lab) ?_ kk Q
  intro b kk Q
  exact wp_step d i b O W qs xt lab o₀ t kk Q

theorem wp_tripSlots (t : Fin k0_t1_loop.trips) :
    iprop(bigSep Finset.univ (fun b => Slot d i b qs xt lab o₀ t.val) ∗ Env d i O W lab)
      ⊢ tileWp d i (chain (stepOp i marginV t) (pure ⟨⟩)) fun _ => iprop(bigSep Finset.univ (fun b => Slot d i b qs xt lab o₀ (t.val + 1)) ∗ Env d i O W lab) :=
  wp_last d i fun Q => wp_steps d i O W qs xt lab o₀ t _ Q

theorem wp_trip (t : Fin k0_t1_loop.trips) :
    iprop(Slots d i qs xt lab o₀ t.val ∗ Env d i O W lab)
      ⊢ tileWp d i (tripOp i marginV t) fun _ => iprop(Slots d i qs xt lab o₀ (t.val + 1) ∗ Env d i O W lab) := by
  unfold tripOp Slots
  exact wp_tripSlots d i O W qs xt lab o₀ t

end Cert.Proof.Tile

end
-- ==== Proof.Ring.lean ====
/-
  All trips of the ring, the steps before it and after it, and the tile's whole program.
-/
module

public import proofs.«01_k».proof.Proof.Step

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (b : Fin 6)
variable (O : CellTallies nD τ sig (HIx 1)) (W : Waits sig (HIx 1))
variable (qs : Fin 6 → PosShare TreeShare) (xt : S100000x1024.Idx → F .f32) (lab : S1024.Idx → BitVec 32)
variable (o₀ : S100000x1024.Idx → F .f32)

theorem wp_ring (kk : TP F i PUnit) (Q : PUnit → sProp 𝕄) :
    iprop(Slots d i qs xt lab o₀ 0 ∗ Env d i O W lab)
      ⊢ iprop((iprop(Slots d i qs xt lab o₀ k0_t1_loop.trips ∗ Env d i O W lab) -∗ tileWp d i kk Q)
        -∗ tileWp d i (do ringOp i marginV; kk) Q) := by
  have hb : ∀ (t : Fin k0_t1_loop.trips) (_ : PUnit.{1}), (fun (t : ℕ) (_ : PUnit.{1}) => iprop(Slots d i qs xt lab o₀ t ∗ Env d i O W lab)) t.val ⟨⟩
      ⊢ tileWp d i (tripOp i marginV t) ((fun (t : ℕ) (_ : PUnit.{1}) => iprop(Slots d i qs xt lab o₀ t ∗ Env d i O W lab)) (t.val + 1)) :=
    fun t _ => wp_trip d i O W qs xt lab o₀ t
  have key := Scf.wp_for_bind frame (wpE (defs₀ (F := F)) 𝒱₀ (thr d i) none) Set.univ k0_t1_loop.lb k0_t1_loop.ub k0_t1_loop.st
    k0_t1_abs.1 (⟨⟩ : PUnit) (fun t (_ : PUnit) => tripOp i marginV t)
    (fun t _ => iprop(Slots d i qs xt lab o₀ t ∗ Env d i O W lab))
    hb (kk := fun _ => kk) (Q := Q)
  unfold ringOp
  refine key.trans ?_
  iintro HK HQ
  iapply HK
  iintro %_ H
  iapply HQ $$ H

/-! ## Before the ring, and after it -/

theorem wp_startStep (kk : TP F i PUnit) (Q : PUnit → sProp 𝕄) :
    iprop(iprop(InFree d i b (qs b) xt ∗ OutBuf (F := F) d i b ∗ OutRest d i b xt lab o₀ 0) ∗ Env d i O W lab)
      ⊢ iprop((iprop(Slot d i b qs xt lab o₀ 0 ∗ Env d i O W lab) -∗ tileWp d i kk Q)
        -∗ tileWp d i (startStep i b kk) Q) := by
  unfold startStep Slot In
  rw [if_pos (cnt_pos i b), Nat.zero_min, Out_zero]
  iintro ⟨⟨Hi, Ho⟩, He⟩ HK
  iapply (wp_startIn d i b (qs b) xt (h := offS_inb i b) (n := chunkOf i b 0) ((offS_eq i b).trans (by
    unfold chunkOf; rw [Nat.mul_zero, Nat.zero_add]))) $$ Hi
  iintro Hi
  iapply HK
  isplitl [Hi Ho]
  · isplitl [Hi]; · iexact Hi
    iexact Ho
  iexact He

theorem wp_waitStep (kk : TP F i PUnit) (Q : PUnit → sProp 𝕄) :
    iprop(Slot d i b qs xt lab o₀ k0_t1_loop.trips ∗ Env d i O W lab)
      ⊢ iprop((iprop(iprop(InFree d i b (qs b) xt ∗ OutBuf (F := F) d i b ∗ OutRest d i b xt lab o₀ (cnt i b)) ∗ Env d i O W lab)
          -∗ tileWp d i kk Q) -∗ tileWp d i (waitStep i b kk) Q) := by
  have hle := cnt_le i b
  unfold waitStep Slot In
  rw [if_neg (Nat.not_lt.2 hle), Nat.min_eq_right hle]
  obtain ⟨n, hn⟩ : ∃ n, cnt i b = n + 1 := ⟨cnt i b - 1, by have := cnt_pos i b; omega⟩
  rw [hn, Out_succ]
  iintro ⟨⟨Hi, Ho⟩, Hl, Hm⟩ HK
  iapply (wp_waitOut d i b O W xt lab o₀ n) $$ [Ho Hm]
  · isplitl [Ho]; · iexact Ho
    iexact Hm
  iintro ⟨Hb, Ho, Hm⟩
  iapply HK
  isplitl [Hi Hb Ho]
  · isplitl [Hi]; · iexact Hi
    isplitl [Hb]; · iexact Hb
    iexact Ho
  isplitl [Hl]; · iexact Hl
  iexact Hm

/-! ## The labels -/

variable (ql : PosShare TreeShare)

abbrev LabFree : sProp 𝕄 :=
  iprop((lLoc d ↦{ql} (lab : Buf (Elt F) (lLoc d))) ∗ (∃ f : Buf (Elt F) (lbLoc d i), lbLoc d i ↦{fullShare} f)
    ∗ semVal (thr d i, .dma lsem) 0)

theorem wp_labels (kk : TP F i PUnit) (Q : PUnit → sProp 𝕄) :
    iprop(LabFree d i lab ql ∗ May (F := F) d i O W)
      ⊢ iprop((iprop(iprop((lLoc d ↦{ql} (lab : Buf (Elt F) (lLoc d))) ∗ semVal (thr d i, .dma lsem) 0) ∗ Env d i O W lab)
          -∗ tileWp d i kk Q) -∗ tileWp d i (do labStart i; labWait i; kk) Q) := by
  iintro ⟨⟨Hl, ⟨%f, Hb⟩, Hs⟩, Hm⟩ HK
  have key := Transfers.wp_dmaLocal countersEmb 𝒱₀ (thr d i) none (defs := defs₀ (F := F)) (src := labV) (via := .same)
    (dst := lbufV) (sm := .dma lsem) (hsrc := (Memref.isWhole_whole _).wordExact) (hdst := (Memref.isWhole_whole _).wordExact)
    (hsem := ⟨Or.inl rfl, trivial⟩) (k := fun _ => (do labWait i; kk : TP F i PUnit)) (Q := Q) (q := ql)
    (fs := (lab : Buf (Elt F) (lLoc d))) (Sd := Finset.univ) (fd := f)
    (default : HIx 1) lbufV.view.dmaCredit rfl (View.dmaCredit_pos _ (by decide)) (Finset.subset_univ _)
  rw [show labV.view.set = Finset.univ from View.set_whole _] at key
  iapply key $$ [Hl Hb Hs]
  · isplitl [Hl]; · iexact Hl
    isplitl [Hb]; · iexact Hb
    iexact Hs
  iintro Hf
  have key' := wp_wait d i O W (sem := lsem) (srcw := labV) (dstw := lbufV) (hsrc := (Memref.isWhole_whole _).wordExact)
    (hdst := (Memref.isWhole_whole _).wordExact) (N := lbufV.view.dmaCredit) rfl
    (R := iprop((lbLoc d i ↦{fullShare} (lab : Buf (Elt F) (lbLoc d i))) ∗ (lLoc d ↦{ql} (lab : Buf (Elt F) (lLoc d))))) kk Q
  iapply key' $$ [Hf Hm]
  · isplitl [Hf]
    · iapply (Transfers.Flight_mono countersEmb (thr d i) (sep_mono_left (Eq.le (congrArg (fun g : Buf (Elt F) (lbLoc d i) =>
        (lbLoc d i ↦{fullShare} g : sProp 𝕄)) (View.write_whole_univ _ _ _))))) $$ Hf
    iexact Hm
  iintro ⟨⟨Hb, Hl⟩, Hs, Hm⟩
  iapply HK
  isplitl [Hl Hs]
  · isplitl [Hl]; · iexact Hl
    iexact Hs
  isplitl [Hb]; · iexact Hb
  iexact Hm

/-! ## The whole program -/

theorem wp_body :
    iprop(LabFree d i lab ql ∗ May (F := F) d i O W
        ∗ bigSep Finset.univ fun b => iprop(InFree d i b (qs b) xt ∗ OutBuf (F := F) d i b ∗ OutRest d i b xt lab o₀ 0))
      ⊢ tileWp d i (bodyOp i) fun _ =>
        iprop(iprop((lLoc d ↦{ql} (lab : Buf (Elt F) (lLoc d))) ∗ semVal (thr d i, .dma lsem) 0)
          ∗ Env d i O W lab
          ∗ bigSep Finset.univ fun b => iprop(InFree d i b (qs b) xt ∗ OutBuf (F := F) d i b ∗ OutRest d i b xt lab o₀ (cnt i b))) := by
  unfold bodyOp
  iintro ⟨Hl, Hm, Hs⟩
  iapply (wp_labels d i O W lab ql) $$ [Hl Hm]
  · isplitl [Hl]; · iexact Hl
    iexact Hm
  iintro ⟨Hl, He⟩
  iapply (wp_chain d i (fun b kk Q => wp_startStep d i b O W qs xt lab o₀ kk Q)) $$ [Hs He]
  · isplitl [Hs]; · iexact Hs
    iexact He
  iintro H
  iapply (wp_ring d i O W qs xt lab o₀) $$ [H]
  · unfold Slots
    iexact H
  unfold Slots
  iintro H
  iapply (wp_chain d i (fun b kk Q => wp_waitStep d i b O W qs xt lab o₀ kk Q)) $$ H
  iintro ⟨Hs, He⟩
  iapply (le_wp_ret _ _ _ _)
  isplitl [Hl]; · iexact Hl
  isplitl [He]; · iexact He
  iexact Hs

end Cert.Proof.Tile

end
-- ==== Proof.Own.lean ====
/-
  What a tile owns, cut as its program holds it: the thirteen semaphores out of the subcore's own, the three buffers out of the
  subcore's own, each buffer of six as its six slots; and the result's elements of one tile as its six slots' shares of them.
-/
module

public import proofs.«01_k».proof.Proof.Ring
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (i : grid0.Coords)

/-! ## Semaphores -/

/-- The tile's semaphores by name: the labels', the six slots' in, the six slots' out. -/
def tsem : Unit ⊕ (Fin 6 ⊕ Fin 6) → DmaSem sig
  | .inl _ => lsem
  | .inr (.inl b) => isem b
  | .inr (.inr b) => osem b

theorem tsem_injective : Function.Injective tsem := by decide

theorem tsem_scoped : ∀ k, (SemLoc.dma (tsem k) : SemLoc sig).isScoped .scVector = true := by decide

abbrev tcell (k : Unit ⊕ (Fin 6 ⊕ Fin 6)) : GSem nD τ sig := (thr d i, .dma (tsem k))

theorem tcell_injective : Function.Injective (tcell d i) := fun _ _ h =>
  tsem_injective (SemLoc.dma.inj (Prod.mk.inj h).2)

theorem tcells_sub : Finset.univ.image (tcell d i) ⊆ ownCells (thr d i) := by
  intro g hg
  obtain ⟨k, -, rfl⟩ := Finset.mem_image.mp hg
  exact mem_ownCells.mpr ⟨rfl, tsem_scoped k⟩

theorem ownSems_tile :
    (ownSems0 (thr d i) : sProp 𝕄)
      = iprop((semVal (thr d i, .dma lsem) 0 ∗ (bigSep Finset.univ fun b => semVal (thr d i, .dma (isem b)) 0)
          ∗ bigSep Finset.univ fun b => semVal (thr d i, .dma (osem b)) 0)
        ∗ bigSep (ownCells (thr d i) \ Finset.univ.image (tcell d i)) fun g => semVal g 0) := by
  unfold SparseCore.Cfg.ownSems0
  rw [SparseCore.bigSep_sdiff_split' (tcells_sub d i), bigSep_image_of_injOn (tcell_injective d i).injOn, bigSep_univ_sum, bigSep_univ_sum,
    bigSep_univ_of_subsingleton ()]
  rfl

/-! ## Buffers -/

theorem ownBufs_tile :
    (ownBufs (thr d i) : sProp 𝕄)
      = iprop((∃ f, lbLoc d i ↦{fullShare} f) ∗ (∃ f, ibLoc d i ↦{fullShare} f) ∗ (∃ f, obLoc d i ↦{fullShare} f)
        ∗ bigSep ((((ownRefs (τ := τ) (thr d i).2).erase ((thr d i).2.devRef cc0_scratch0)).erase
              ((thr d i).2.devRef cc0_scratch1)).erase ((thr d i).2.devRef cc0_scratch2))
            fun b => iprop(∃ f, ((d, b) : Loc nD τ sig) ↦{fullShare} f)) := by
  unfold SparseCore.Cfg.ownBufs
  have own : ∀ r : Ref sig .scVector, ((thr d i).2.devRef r).owner = .proc (thr d i).2 →
      (thr d i).2.devRef r ∈ ownRefs (τ := τ) (sig := sig) (thr d i).2 := fun r h => SparseCore.Cfg.mem_ownRefs_of_owner h
  have ne : ∀ r s : Ref sig .scVector, r ≠ s → (thr d i).2.devRef r ≠ (thr d i).2.devRef s := fun r s h e =>
    h (Proc.devRef_injective _ e)
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

theorem slots_disjoint : ∀ b ∈ (Finset.univ : Finset (Fin 6)), ∀ b' ∈ (Finset.univ : Finset (Fin 6)), b ≠ b' →
    Disjoint (slotSet b) (slotSet b') := fun b _ b' _ h => Finset.disjoint_left.mpr fun j h1 h2 =>
  h (Fin.ext ((mem_slotSet.mp h1).symm.trans (mem_slotSet.mp h2)))

theorem slots_all : (Finset.univ : Finset (Fin 6)).biUnion slotSet = Finset.univ :=
  Finset.eq_univ_of_forall fun j => Finset.mem_biUnion.mpr ⟨j 0, Finset.mem_univ _, mem_slotSet.mpr rfl⟩

/-- A buffer held whole, some contents, is its parts, each at some contents. -/
theorem parts_split {ℓ : Loc nD τ sig} (P : Fin 6 → Finset (Idx ℓ))
    (hd : ∀ b ∈ (Finset.univ : Finset (Fin 6)), ∀ b' ∈ (Finset.univ : Finset (Fin 6)), b ≠ b' → Disjoint (P b) (P b'))
    (hc : Finset.univ.biUnion P = Finset.univ) :
    (iprop(∃ f, ℓ ↦{fullShare} f) : sProp 𝕄) ⊢ bigSep Finset.univ fun b => iprop(∃ f, ℓ ↦[P b]{fullShare} f) := by
  have e : ∀ f, (ℓ ↦{fullShare} f : sProp 𝕄) = bigSep Finset.univ fun b => ℓ ↦[P b]{fullShare} f := fun f => by
    rw [← pointsTo_biUnion Finset.univ (ℓ := ℓ) P hd, hc]
  have ex : ∀ f, (bigSep Finset.univ fun b => ℓ ↦[P b]{fullShare} f : sProp 𝕄)
      ⊢ bigSep Finset.univ fun b => iprop(∃ f, ℓ ↦[P b]{fullShare} f) := fun f => bigSep_mono fun b _ => by
    show (ℓ ↦[P b]{fullShare} f : sProp 𝕄) ⊢ iprop(∃ f, ℓ ↦[P b]{fullShare} f)
    iintro H
    iexists f
    iexact H
  iintro ⟨%f, H⟩
  ihave H' := (Entails.of_eq (e f)) $$ H
  iapply (ex f) $$ H'

theorem parts_join {ℓ : Loc nD τ sig} (P : Fin 6 → Finset (Idx ℓ))
    (hd : ∀ b ∈ (Finset.univ : Finset (Fin 6)), ∀ b' ∈ (Finset.univ : Finset (Fin 6)), b ≠ b' → Disjoint (P b) (P b'))
    (hc : Finset.univ.biUnion P = Finset.univ) [Nonempty (Buf (Elt F) ℓ)] :
    (bigSep Finset.univ fun b => iprop(∃ f, ℓ ↦[P b]{fullShare} f)) ⊢ (iprop(∃ f, ℓ ↦{fullShare} f) : sProp 𝕄) := by
  refine (bigSep_exists_pi Finset.univ (fun b (f : Buf (Elt F) ℓ) => (ℓ ↦[P b]{fullShare} f : sProp 𝕄))).trans ?_
  iintro ⟨%fs, H⟩
  ihave H' := (pointsTo_biUnion_join (ℓ := ℓ) (q := fullShare) (Val := Elt F) Finset.univ P fs (fs 0) hd) $$ H
  icases H' with ⟨%g, -, Hg⟩
  rw [hc]
  iexists g
  iexact Hg

/-! ## The result's elements -/

/-- The elements of the result that the tile numbered `w` writes. -/
def tileSet (w : Fin 32) : Finset S100000x1024.Idx := Finset.univ.filter fun j => (j 0).val / 8 % 32 = w.val

theorem mem_tileSet {w : Fin 32} {j : S100000x1024.Idx} : j ∈ tileSet w ↔ (j 0).val / 8 % 32 = w.val := by simp [tileSet]

abbrev widF : Fin 32 := ⟨wid i, wid_lt i⟩

theorem mem_outSet {b : Fin 6} {j : S100000x1024.Idx} :
    j ∈ outSet i b ↔ (j 0).val / 8 % 32 = wid i ∧ (j 0).val / 8 / 32 % 6 = b.val := by simp [outSet]

theorem outs_disjoint : ∀ b ∈ (Finset.univ : Finset (Fin 6)), ∀ b' ∈ (Finset.univ : Finset (Fin 6)), b ≠ b' →
    Disjoint (outSet i b) (outSet i b') := fun b _ b' _ h => Finset.disjoint_left.mpr fun j h1 h2 =>
  h (Fin.ext (((mem_outSet i).mp h1).2.symm.trans ((mem_outSet i).mp h2).2))

theorem outs_all : (Finset.univ : Finset (Fin 6)).biUnion (outSet i) = tileSet (widF i) := by
  ext j
  refine Finset.mem_biUnion.trans ⟨?_, fun h => ?_⟩
  · rintro ⟨b, -, h⟩
    exact mem_tileSet.mpr ((mem_outSet i).mp h).1
  · exact ⟨⟨(j 0).val / 8 / 32 % 6, Nat.mod_lt _ (by decide)⟩, Finset.mem_univ _,
      (mem_outSet i).mpr ⟨mem_tileSet.mp h, rfl⟩⟩

theorem out_slots (f : Buf (Elt F) (oLoc d)) :
    (oLoc d ↦[tileSet (widF i)]{fullShare} f : sProp 𝕄) = bigSep Finset.univ fun b => oLoc d ↦[outSet i b]{fullShare} f := by
  rw [← pointsTo_biUnion Finset.univ (ℓ := oLoc d) (outSet i) (outs_disjoint i), outs_all]

theorem tiles_disjoint : ∀ w ∈ (Finset.univ : Finset (Fin 32)), ∀ w' ∈ (Finset.univ : Finset (Fin 32)), w ≠ w' →
    Disjoint (tileSet w) (tileSet w') := fun w _ w' _ h => Finset.disjoint_left.mpr fun j h1 h2 =>
  h (Fin.ext ((mem_tileSet.mp h1).symm.trans (mem_tileSet.mp h2)))

theorem tiles_all : (Finset.univ : Finset (Fin 32)).biUnion tileSet = Finset.univ :=
  Finset.eq_univ_of_forall fun j => Finset.mem_biUnion.mpr
    ⟨⟨(j 0).val / 8 % 32, Nat.mod_lt _ (by decide)⟩, Finset.mem_univ _, mem_tileSet.mpr rfl⟩

theorem out_tiles (f : Buf (Elt F) (oLoc d)) :
    (oLoc d ↦{fullShare} f : sProp 𝕄) = bigSep Finset.univ fun w => oLoc d ↦[tileSet w]{fullShare} f := by
  rw [← pointsTo_biUnion Finset.univ (ℓ := oLoc d) tileSet tiles_disjoint, tiles_all]

variable [FloatOps F] (xt : S100000x1024.Idx → F .f32) (lab : S1024.Idx → BitVec 32) (o₀ : S100000x1024.Idx → F .f32)

/-- After all its chunks a slot's elements hold the result. -/
theorem H_done (b : Fin 6) : ∀ j ∈ outSet i b, H xt lab o₀ (cnt i b) j = G xt lab j := by
  intro j hj
  obtain ⟨h1, h2⟩ := (mem_outSet i).mp hj
  have hj : (j 0).val < 100000 := (j 0).isLt
  have hlt : (j 0).val / 8 / 32 / 6 < cnt i b := by
    refine (lt_cnt i b _).1 ?_
    have hb := b.isLt
    unfold myT
    split <;> omega
  unfold H
  rw [if_pos hlt]

end Cert.Proof.Tile

end
-- ==== Proof.Launch.lean ====
/-
  One tile's task, from what the launch hands it to what it hands back; the launch of the thirty-two tiles; and the run of the
  whole program, the transposes around the call included.
-/
module

public import proofs.«01_k».proof.Proof.Own

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One tile's task -/

section Task

variable (d : Dev nD) (i : grid0.Coords) (xt : S100000x1024.Idx → F .f32) (lab : S1024.Idx → BitVec 32)
  (o₀ : S100000x1024.Idx → F .f32)

/-- The share of the arrays read that the tile numbered `w` holds, and slot `b`'s part of it. -/
abbrev tq (w : Fin 32) : PosShare TreeShare := Transfers.dealOf fullShare Finset.univ w
abbrev sq (w : Fin 32) (b : Fin 6) : PosShare TreeShare := Transfers.dealOf (tq w) Finset.univ b

/-- What a tile holds of the arrays: a share of the labels and of the transposed logits, and its own elements of the result at
    `g`. -/
abbrev Part (w : Fin 32) (g : S100000x1024.Idx → F .f32) : sProp 𝕄 :=
  iprop((lLoc d ↦{tq w} (lab : Buf (Elt F) (lLoc d))) ∗ (xLoc d ↦{tq w} (xt : Buf (Elt F) (xLoc d)))
    ∗ (oLoc d ↦[tileSet w]{fullShare} (g : Buf (Elt F) (oLoc d))))

theorem slots_eq (qs : Fin 6 → PosShare TreeShare) (n : Fin 6 → ℕ) :
    (bigSep Finset.univ fun b => iprop(InFree d i b (qs b) xt ∗ OutBuf (F := F) d i b ∗ OutRest d i b xt lab o₀ (n b)))
      = iprop(((bigSep Finset.univ fun b => iprop(∃ f : Buf (Elt F) (ibLoc d i), ibLoc d i ↦[slotSet b]{fullShare} f))
          ∗ (bigSep Finset.univ fun b => semVal (thr d i, .dma (isem b)) 0)
          ∗ bigSep Finset.univ fun b => (xLoc d ↦{qs b} (xt : Buf (Elt F) (xLoc d)) : sProp 𝕄))
        ∗ (bigSep Finset.univ fun b => iprop(∃ f : Buf (Elt F) (obLoc d i), obLoc d i ↦[slotSet b]{fullShare} f))
        ∗ (bigSep Finset.univ fun b => semVal (thr d i, .dma (osem b)) 0)
        ∗ bigSep Finset.univ fun b => (oLoc d ↦[outSet i b]{fullShare} (H xt lab o₀ (n b) : Buf (Elt F) (oLoc d)) : sProp 𝕄)) := by
  rw [bigSep_sep', bigSep_sep', bigSep_sep', bigSep_sep', bigSep_sep']

theorem out_before :
    (bigSep Finset.univ fun b => (oLoc d ↦[outSet i b]{fullShare} (H xt lab o₀ 0 : Buf (Elt F) (oLoc d)) : sProp 𝕄))
      = (oLoc d ↦[tileSet (widF i)]{fullShare} (o₀ : Buf (Elt F) (oLoc d))) :=
  (bigSep_congr fun b _ => pointsTo_congr fun j _ => if_neg (Nat.not_lt_zero _)).trans (out_slots d i o₀).symm

theorem out_after :
    (bigSep Finset.univ fun b => (oLoc d ↦[outSet i b]{fullShare} (H xt lab o₀ (cnt i b) : Buf (Elt F) (oLoc d)) : sProp 𝕄))
      = (oLoc d ↦[tileSet (widF i)]{fullShare} (G xt lab : Buf (Elt F) (oLoc d))) :=
  (bigSep_congr fun b _ => pointsTo_congr (H_done i xt lab o₀ b)).trans (out_slots d i (G xt lab)).symm

/-- The share of the transposed logits, slot by slot. -/
theorem x_slots (w : Fin 32) :
    (xLoc d ↦{tq w} (xt : Buf (Elt F) (xLoc d)) : sProp 𝕄)
      = bigSep Finset.univ fun b => (xLoc d ↦{sq w b} (xt : Buf (Elt F) (xLoc d)) : sProp 𝕄) :=
  Transfers.pointsTo_deal Finset.univ Finset.univ_nonempty (tq w)

theorem tile_body (hF : (K (F := F)).Facts) (O : CellTallies nD τ sig (HIx 1)) (W : Waits sig (HIx 1)) (hO : ∀ g, O g none = 0) :
    iprop(levAts (K (F := F)).L (K (F := F)).lev ∗ emp ∗ Part d xt lab (widF i) o₀
        ∗ scopedBufs (thr d i) ∗ scopedSems0 (thr d i) ∗ owes (thr d i) O W)
      ⊢ wp frame (wpE (defs₀ (F := F)) 𝒱₀ (thr d i) none) Set.univ
          (cc0_sc_fn (F := F) i xtV (Memref.isWhole_whole _) labV (Memref.isWhole_whole _) outV (Memref.isWhole_whole _) lbufV
            (Memref.isWhole_whole _) ibufV (Memref.isWhole_whole _) obufV (Memref.isWhole_whole _) cc0_scratch3 cc0_scratch4
            cc0_scoped0)
          fun _ => iprop(Part d xt lab (widF i) (G xt lab)
            ∗ scopedBufs (thr d i) ∗ scopedSems0 (thr d i) ∗ Owe (F := F) d i O W) := by
  rw [body_eq, (K (F := F)).scopedBufs_V hF d _ _, SparseCore.Cfg.scopedSems0_V (Val := Elt F) d _ _, ownSems_tile d i,
    ownBufs_tile d i]
  have key := wp_body d i O W (sq (widF i)) xt lab o₀ (tq (widF i))
  rw [slots_eq d i xt lab o₀ _ fun _ => 0, slots_eq d i xt lab o₀ _ (cnt i), out_before, out_after,
    ← x_slots d xt (widF i)] at key
  have bs := parts_split (F := F) (ℓ := ibLoc d i) slotSet slots_disjoint slots_all
  have os := parts_split (F := F) (ℓ := obLoc d i) slotSet slots_disjoint slots_all
  have : Nonempty (Buf (Elt F) (ibLoc d i)) := ⟨XB xt 0⟩
  have : Nonempty (Buf (Elt F) (obLoc d i)) := ⟨XB xt 0⟩
  have bj := parts_join (F := F) (ℓ := ibLoc d i) slotSet slots_disjoint slots_all
  have oj := parts_join (F := F) (ℓ := obLoc d i) slotSet slots_disjoint slots_all
  iintro ⟨#Hlv, -, ⟨Hl, Hx, Ho⟩, ⟨Hlb, Hib, Hob, Hbufs⟩, ⟨⟨Hsl, Hsi, Hso⟩, Hsems⟩, HO⟩
  ihave Hmw := (show levAts (K (F := F)).L (K (F := F)).lev ⊢ Transfers.MayWaits (thr d i) (default : HIx 1) O from
    (K (F := F)).mayWaits_none (thr := thr d i) hO) $$ Hlv
  ihave Hib := bs $$ Hib
  ihave Hob := os $$ Hob
  ihave Hwp := key $$ [Hl Hx Ho Hlb Hib Hob Hsl Hsi Hso HO]
  · isplitl [Hl Hlb Hsl]
    · isplitl [Hl]; · iexact Hl
      isplitl [Hlb]; · iexact Hlb
      iexact Hsl
    isplitl [HO]
    · isplitr; · iexact Hmw
      iexists W
      isplitr; · ipureintro; exact fun _ => Or.inl
      iexact HO
    isplitl [Hib Hsi Hx]
    · isplitl [Hib]; · iexact Hib
      isplitl [Hsi]; · iexact Hsi
      iexact Hx
    isplitl [Hob]; · iexact Hob
    isplitl [Hso]; · iexact Hso
    iexact Ho
  iapply (wp_wand frame (wpE (defs₀ (F := F)) 𝒱₀ (thr d i) none) Set.univ) $$ Hwp
  iintro %_ ⟨⟨Hl, Hsl⟩, ⟨Hlb, -, HO⟩, ⟨Hib, Hsi, Hx⟩, Hob, Hso, Ho⟩
  isplitl [Hl Hx Ho]
  · isplitl [Hl]; · iexact Hl
    isplitl [Hx]; · iexact Hx
    iexact Ho
  isplitl [Hlb Hib Hob Hbufs]
  · isplitl [Hlb]; · iexists _; iexact Hlb
    isplitl [Hib]; · iapply bj $$ Hib
    isplitl [Hob]; · iapply oj $$ Hob
    iexact Hbufs
  isplitl [Hsl Hsi Hso Hsems]
  · isplitr [Hsems]
    · isplitl [Hsl]; · iexact Hsl
      isplitl [Hsi]; · iexact Hsi
      iexact Hso
    iexact Hsems
  iexact HO

end Task

/-! ## The tiles by core and subcore -/

/-- The tile on core `c`, subcore `s`. -/
abbrev nm (c : Fin 2) (s : Fin 16) : Fin 32 := ⟨2 * s.val + c.val, by omega⟩

def pairs : Fin 2 × Fin 16 ≃ Fin 32 where
  toFun p := nm p.1 p.2
  invFun w := (⟨w.val % 2, by omega⟩, ⟨w.val / 2, by omega⟩)
  left_inv p := by
    have h := p.1.isLt
    refine Prod.ext (Fin.ext ?_) (Fin.ext ?_)
    · show (2 * p.2.val + p.1.val) % 2 = p.1.val
      omega
    · show (2 * p.2.val + p.1.val) / 2 = p.2.val
      omega
  right_inv w := Fin.ext (show 2 * (w.val / 2) + w.val % 2 = w.val by omega)

theorem by_core (Φ : Fin 32 → sProp 𝕄) :
    bigSep Finset.univ Φ = bigSep Finset.univ fun c : Fin 2 => bigSep Finset.univ fun s : Fin 16 => Φ (nm c s) :=
  (bigSep_univ_equiv pairs Φ).trans (bigSep_univ_prod _)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ) (ρ : Dev nD → PrngReg)

/-- The transposed logits, the labels, and the result array at the launch. -/
abbrev xt₀ (d : Dev nD) : S100000x1024.Idx → F .f32 :=
  transpose S100000x1024 [1, 0] (m ((SparseCore.T d).loc main_arg0) : FVec F S1024x100000 .f32) transposes_S1024x100000_S100000x1024_1_0
abbrev lab₀ (d : Dev nD) : S1024.Idx → BitVec 32 := m (lLoc d)
abbrev out₀ (d : Dev nD) : S100000x1024.Idx → F .f32 := m (oLoc d)

/-- Core `c`'s tiles' parts of the arrays. -/
abbrev Core (d : Dev nD) (g : S100000x1024.Idx → F .f32) (c : Fin 2) : sProp 𝕄 :=
  bigSep Finset.univ fun s : Fin 16 => Part d (xt₀ m d) (lab₀ m d) (nm c s) g

/-- The cores' parts together are the arrays whole. -/
theorem cores_eq (d : Dev nD) (g : S100000x1024.Idx → F .f32) :
    (bigSep Finset.univ fun c : Fin ((K (F := F)).nCore 0) => Core m d g (Fin.cast nCore_zero c))
      = iprop((lLoc d ↦{fullShare} (lab₀ m d : Buf (Elt F) (lLoc d))) ∗ (xLoc d ↦{fullShare} (xt₀ m d : Buf (Elt F) (xLoc d)))
        ∗ (oLoc d ↦{fullShare} (g : Buf (Elt F) (oLoc d)))) := by
  rw [bigSep_cores (F := F) (fun c => Core m d g c), ← by_core (F := F) fun w => Part d (xt₀ m d) (lab₀ m d) w g, bigSep_sep',
    bigSep_sep', ← out_tiles, ← Transfers.pointsTo_deal Finset.univ Finset.univ_nonempty fullShare,
    ← Transfers.pointsTo_deal Finset.univ Finset.univ_nonempty fullShare]

/-- What the one call's handshakes carry: each core its tiles' parts, each tile its own, the result's elements written after. -/
def P : (K (F := F)).Pay (nD := nD) (Val := Elt F) (Name := ℕ) (U := UU) where
  st := fun q d c => match q with | 0 => Core m d (out₀ m d) (Fin.cast nCore_zero c)
  dn := fun q d c => match q with | 0 => Core m d (G (xt₀ m d) (lab₀ m d)) (Fin.cast nCore_zero c)
  go := fun q d c i => match q with
    | 0 => Part d (xt₀ m d) (lab₀ m d) (nm (Fin.cast nCore_zero c) (Fin.cast nSub_zero i)) (out₀ m d)
  td := fun q d c i => match q with
    | 0 => Part d (xt₀ m d) (lab₀ m d) (nm (Fin.cast nCore_zero c) (Fin.cast nSub_zero i)) (G (xt₀ m d) (lab₀ m d))
  x := fun _ _ => iprop(emp)

instance P_storable : (P (F := F) m).IsStorable where
  st q d c := match q with
    | 0 => (inferInstance : BI.Storable (upEmb : UEmb _ 𝕄) (Core m d (out₀ m d) (Fin.cast nCore_zero c)))
  dn q d c := match q with
    | 0 => (inferInstance : BI.Storable (upEmb : UEmb _ 𝕄) (Core m d (G (xt₀ m d) (lab₀ m d)) (Fin.cast nCore_zero c)))
  go q d c i := match q with
    | 0 => (inferInstance : BI.Storable (upEmb : UEmb _ 𝕄)
      (Part d (xt₀ m d) (lab₀ m d) (nm (Fin.cast nCore_zero c) (Fin.cast nSub_zero i)) (out₀ m d)))
  td q d c i := match q with
    | 0 => (inferInstance : BI.Storable (upEmb : UEmb _ 𝕄)
      (Part d (xt₀ m d) (lab₀ m d) (nm (Fin.cast nCore_zero c) (Fin.cast nSub_zero i)) (G (xt₀ m d) (lab₀ m d))))

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_fn (F := F) (coordsV c s) xtV (Memref.isWhole_whole _) labV
          (Memref.isWhole_whole _) outV (Memref.isWhole_whole _) lbufV (Memref.isWhole_whole _) ibufV (Memref.isWhole_whole _)
          obufV (Memref.isWhole_whole _) cc0_scratch3 cc0_scratch4 cc0_scoped0) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xt₀ m d) (lab₀ m d) (out₀ m d) hF O W hO).trans
    (wp_mono frame _ _ fun _ => obl_post)

theorem vecSplit : (K (F := F)).VecSplit' (P m) 0 := by
  intro d c
  show Core m d (out₀ m d) (Fin.cast nCore_zero c) ⊢ |={Set.univ}=> iprop(
      (bigSep Finset.univ fun i : Fin ((K (F := F)).nSub 0) =>
        Part d (xt₀ m d) (lab₀ m d) (nm (Fin.cast nCore_zero c) (Fin.cast nSub_zero i)) (out₀ m d))
      ∗ ((bigSep Finset.univ fun i : Fin ((K (F := F)).nSub 0) =>
          Part d (xt₀ m d) (lab₀ m d) (nm (Fin.cast nCore_zero c) (Fin.cast nSub_zero i)) (G (xt₀ m d) (lab₀ m d)))
          -∗ Core m d (G (xt₀ m d) (lab₀ m d)) (Fin.cast nCore_zero c)))
  rw [bigSep_tasks (F := F) (fun s => Part d (xt₀ m d) (lab₀ m d) (nm (Fin.cast nCore_zero c) s) (out₀ m d)),
    bigSep_tasks (F := F) (fun s => Part d (xt₀ m d) (lab₀ m d) (nm (Fin.cast nCore_zero c) s) (G (xt₀ m d) (lab₀ m d)))]
  iintro H; imodintro
  isplitl [H]; · iexact H
  iintro H
  iexact H

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  have none : ∀ {I : Type} (s : Finset I), (bigSep s fun _ => iprop(emp)) = (iprop(emp) : sProp 𝕄) := fun s => bigSep_emp_const s
  isplitr; · rw [none]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), none]
  iempintro

/-! ## The program on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.unary main_arg0 main_v0
  ((transpose S100000x1024 [1, 0] · transposes_S1024x100000_S100000x1024_1_0) :
    (⟨S1024x100000, .f32⟩ : BufTy).Contents (Elt F) → (⟨S100000x1024, .f32⟩ : BufTy).Contents (Elt F))
abbrev opOut : HloOp τ sig (Elt F) := StableHlo.unary main_v1 main_v2
  ((transpose S1024x100000 [1, 0] · transposes_S100000x1024_S1024x100000_1_0) :
    (⟨S100000x1024, .f32⟩ : BufTy).Contents (Elt F) → (⟨S1024x100000, .f32⟩ : BufTy).Contents (Elt F))

/-- The program's result: the kernel's, transposed back. -/
def R (d : Dev nD) : S1024x100000.Idx → F .f32 :=
  transpose S1024x100000 [1, 0] (G (xt₀ m d) (lab₀ m d) : FVec F S100000x1024 .f32) transposes_S100000x1024_S1024x100000_1_0

abbrev S6 : Finset (DevRef τ sig) := {a0', a1', a2', x', o', r'}

/-- The six arrays at given contents. -/
abbrev Six (d : Dev nD) (W : Valuation τ sig (Elt F)) : sProp 𝕄 :=
  iprop(((SparseCore.T d).loc main_arg0 ↦{fullShare} W a0') ∗ (lLoc d ↦{fullShare} W a1') ∗ ((SparseCore.T d).loc main_arg2 ↦{fullShare} W a2')
    ∗ (xLoc d ↦{fullShare} W x') ∗ (oLoc d ↦{fullShare} W o') ∗ ((SparseCore.T d).loc main_v2 ↦{fullShare} W r'))

theorem held_S6 (d : Dev nD) (W : Valuation τ sig (Elt F)) : (StableHlo.held (T d) S6 W : sProp 𝕄) = Six d W := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)
/-- The arrays as the call finds them, and as it leaves them. -/
def V1 (d : Dev nD) : Valuation τ sig (Elt F) := (opIn (F := F)).result (V0 m d)
def V2 (d : Dev nD) : Valuation τ sig (Elt F) := Function.update (V1 m d) o' (G (xt₀ m d) (lab₀ m d) : Buf (Elt F) (oLoc d))

theorem unscoped_held (d : Dev nD) :
    (unscopedBufs d (fun b => m ((SparseCore.T d).loc b)) : sProp 𝕄) = StableHlo.held (T d) S6 (V0 m d) := by
  rw [held_S6]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

theorem V1_x (d : Dev nD) : V1 m d x' = xt₀ m d := StableHlo.unary_result _ _ _ _ _ _
theorem V1_of (d : Dev nD) (b : DevRef τ sig) (h : b ∉ ({x'} : Finset (DevRef τ sig))) : V1 m d b = m (d, b) :=
  (opIn (F := F)).result_of_not_mem (V0 m d) (b := b) h

theorem V2_o (d : Dev nD) : V2 m d o' = G (xt₀ m d) (lab₀ m d) := Function.update_self _ _ _
theorem V2_of (d : Dev nD) (b : DevRef τ sig) (h : b ≠ o') : V2 m d b = V1 m d b := Function.update_of_ne h _ _

theorem V3_r (d : Dev nD) : (opOut (F := F)).result (V2 m d) r' = R m d :=
  (StableHlo.unary_result _ _ _ _ _ _).trans (congrArg (transpose S1024x100000 [1, 0] · transposes_S100000x1024_S1024x100000_1_0) (V2_o m d))
theorem V3_of (d : Dev nD) (b : DevRef τ sig) (h : b ∉ ({r'} : Finset (DevRef τ sig))) :
    (opOut (F := F)).result (V2 m d) b = V2 m d b :=
  (opOut (F := F)).result_of_not_mem (V2 m d) (b := b) h

theorem hIn : (opIn (F := F)).bufs ⊆ S6 := show ({a0', x'} : Finset (DevRef τ sig)) ⊆ S6 by decide
theorem hOut : (opOut (F := F)).bufs ⊆ S6 := show ({o', r'} : Finset (DevRef τ sig)) ⊆ S6 by decide

/-- What the program leaves: its arguments as they were, and its result. -/
abbrev FIN (d : Dev nD) : sProp 𝕄 :=
  iprop(((SparseCore.T d).loc main_arg0 ↦{fullShare} m ((SparseCore.T d).loc main_arg0)) ∗ (lLoc d ↦{fullShare} m (lLoc d))
    ∗ ((SparseCore.T d).loc main_arg2 ↦{fullShare} m ((SparseCore.T d).loc main_arg2))
    ∗ ((SparseCore.T d).loc main_v2 ↦{fullShare} (R m d : Buf (Elt F) ((SparseCore.T d).loc main_v2))))

theorem six_call (d : Dev nD) : Six d (V1 m d)
    = iprop(((SparseCore.T d).loc main_arg0 ↦{fullShare} m ((SparseCore.T d).loc main_arg0)) ∗ (lLoc d ↦{fullShare} (lab₀ m d : Buf (Elt F) (lLoc d)))
      ∗ ((SparseCore.T d).loc main_arg2 ↦{fullShare} m ((SparseCore.T d).loc main_arg2)) ∗ (xLoc d ↦{fullShare} (xt₀ m d : Buf (Elt F) (xLoc d)))
      ∗ (oLoc d ↦{fullShare} (out₀ m d : Buf (Elt F) (oLoc d))) ∗ ((SparseCore.T d).loc main_v2 ↦{fullShare} m ((SparseCore.T d).loc main_v2))) := by
  unfold Six
  rw [V1_x, V1_of m d a0' (by decide), V1_of m d a1' (by decide), V1_of m d a2' (by decide), V1_of m d o' (by decide), V1_of m d r' (by decide)]

theorem six_back (d : Dev nD) : Six d (V2 m d)
    = iprop(((SparseCore.T d).loc main_arg0 ↦{fullShare} m ((SparseCore.T d).loc main_arg0)) ∗ (lLoc d ↦{fullShare} (lab₀ m d : Buf (Elt F) (lLoc d)))
      ∗ ((SparseCore.T d).loc main_arg2 ↦{fullShare} m ((SparseCore.T d).loc main_arg2)) ∗ (xLoc d ↦{fullShare} (xt₀ m d : Buf (Elt F) (xLoc d)))
      ∗ (oLoc d ↦{fullShare} (G (xt₀ m d) (lab₀ m d) : Buf (Elt F) (oLoc d)))
      ∗ ((SparseCore.T d).loc main_v2 ↦{fullShare} m ((SparseCore.T d).loc main_v2))) := by
  unfold Six
  rw [V2_o, V2_of m d a0' (by decide), V2_of m d a1' (by decide), V2_of m d a2' (by decide), V2_of m d x' (by decide), V2_of m d r' (by decide),
    V1_x, V1_of m d a0' (by decide), V1_of m d a1' (by decide), V1_of m d a2' (by decide), V1_of m d r' (by decide)]

theorem six_end (d : Dev nD) : Six d ((opOut (F := F)).result (V2 m d)) ⊢ FIN m d := by
  unfold Six FIN
  rw [V3_r, V3_of m d a0' (by decide), V3_of m d a1' (by decide), V3_of m d a2' (by decide), V2_of m d a0' (by decide),
    V2_of m d a1' (by decide), V2_of m d a2' (by decide), V1_of m d a0' (by decide), V1_of m d a1' (by decide), V1_of m d a2' (by decide)]
  iintro ⟨H0, H1, H2, -, -, Hr⟩
  isplitl [H0]; · iexact H0
  isplitl [H1]; · iexact H1
  isplitl [H2]; · iexact H2
  iexact Hr

theorem dn_eq (d : Dev nD) : (bigSep Finset.univ fun c : Fin ((K (F := F)).nCore 0) => (P m).dn 0 d c)
    = iprop((lLoc d ↦{fullShare} (lab₀ m d : Buf (Elt F) (lLoc d))) ∗ (xLoc d ↦{fullShare} (xt₀ m d : Buf (Elt F) (xLoc d)))
        ∗ (oLoc d ↦{fullShare} (G (xt₀ m d) (lab₀ m d) : Buf (Elt F) (oLoc d)))) := cores_eq m d _

theorem held_call (d : Dev nD) : (StableHlo.held (T d) S6 ((opIn (F := F)).result (V0 m d)) : sProp 𝕄) = Six d (V1 m d) := held_S6 d _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opIn) (S := S6) hIn (V := V0 m d)) $$ [Hb Hheld]
  · isplitl [Hb]; · iexact Hb
    iexact Hheld
  iintro ⟨Hb, Hheld⟩
  ihave Hh := (Entails.of_eq ((held_call m d).trans (six_call m d))) $$ Hheld
  icases Hh with ⟨H0, Hl, H2, Hx, Ho, Hr⟩
  rw [wp_ret]; imodintro
  iapply ((K (F := F)).wp_run (D (F := F)) 𝒱 (EH := EH) (P := P m) κ d 0) $$ [Hst H0 Hl H2 Hx Ho Hr Hb Hts]
  isplitr; · iexact Hctx
  isplitl [Hst]; · iexact Hst
  isplitl [Hl Hx Ho]
  · iapply (Entails.of_eq (cores_eq m d (out₀ m d)).symm)
    isplitl [Hl]; · iexact Hl
    isplitl [Hx]; · iexact Hx
    iexact Ho
  iintro ⟨Hst, Hdn⟩
  ihave Hdn' := (Entails.of_eq (dn_eq m d)) $$ Hdn
  icases Hdn' with ⟨Hl, Hx, Ho⟩
  iapply (StableHlo.wp_hlo_within 𝒱 (SparseCore.T d) none Set.univ (op := opOut) (S := S6) hOut (V := V2 m d)) $$ [Hb H0 Hl H2 Hx Ho Hr]
  · isplitl [Hb]; · iexact Hb
    iapply (Entails.of_eq ((held_S6 (F := F) d _).trans (six_back m d)).symm)
    isplitl [H0]; · iexact H0
    isplitl [Hl]; · iexact Hl
    isplitl [H2]; · iexact H2
    isplitl [Hx]; · iexact Hx
    isplitl [Ho]; · iexact Ho
    iexact Hr
  iintro ⟨Hb, Hheld⟩
  ihave Hf := ((Entails.of_eq (held_S6 (F := F) d _)).trans (six_end m d)) $$ Hheld
  rw [wp_ret]; imodintro; imodintro
  isplitl [Hst]; · iexact Hst
  isplitl [Hf]; · iexact Hf
  isplitl [Hb] <;> iassumption

/-! ## The run -/

def fq (d : Dev nD) (s' : Phys nD τ sig (Elt F)) : Prop :=
  s'.mem.mem ((SparseCore.T d).loc main_v2) = R m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem reads (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro
    exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (reads s' _ _) $$ [HSI H0]; · isplitl [HSI] <;> iassumption
  icases H with ⟨%h0, HSI⟩
  ihave H := (reads s' _ _) $$ [HSI H1]; · isplitl [HSI] <;> iassumption
  icases H with ⟨%h1, HSI⟩
  ihave H := (reads s' _ _) $$ [HSI H2]; · isplitl [HSI] <;> iassumption
  icases H with ⟨%h2, HSI⟩
  ihave H := (reads s' _ _) $$ [HSI Hr]; · isplitl [HSI] <;> iassumption
  icases H with ⟨%h3, -⟩
  ipureintro
  exact ⟨h3, h0, h1, h2⟩

def QC : PUnit × MemSt nD τ sig (Elt F) → Prop := fun r => (∀ c : Dev nD,
  r.2.mem ((SparseCore.T c).loc main_v2) = R m c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)) ∧ r.2.sem = fun _ => 0

/-- From any memory the program ends with its result at `R`, its arguments as they were and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Frames.lean ====
/-
  The frames of the kernel, as printed and over exact reals, both from the one run over any float values; and of the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof.Tile

open Idealize.ShloMosaic Idealize.SL.Sem Cert.KernelIdeal.Gen Cert.Kernel.Gen Cert.ReferenceIdeal.Gen

theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

/-- The reference declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Tile

end
-- ==== Proof.Value.lean ====
/-
  The two results, read at an index over the extended reals.

  The reference adds the label's shift by a scatter whose updates land at `(row, label)`, a negative label counted from the end and
  one outside the array dropped, and scales after. The kernel scales first and adds the scaled shift where the column is the label.
-/
module

public import proofs.«01_k».proof.Proof.Frames
public import proofs.«01_k».proof.Pre_labels_plain
public import Idealize.ShloMosaic.Lib.Pointwise

@[expose] public section

noncomputable section

namespace Cert.Proof.Tile

open Idealize.ShloMosaic Idealize.SL.Sem

/-- A place of the logits, a row of labels, and a component of a scatter index. -/
abbrev jl (r : Fin 1024) (v : Fin 100000) : Cert.ReferenceIdeal.S1024x100000.Idx := fun | ⟨0, _⟩ => r | ⟨1, _⟩ => v
abbrev jr (r : Fin 1024) : Cert.ReferenceIdeal.S1024.Idx := fun | ⟨0, _⟩ => r
abbrev js (r : Fin 1024) (c : Fin 2) : Cert.ReferenceIdeal.S1024x2.Idx := fun | ⟨0, _⟩ => r | ⟨1, _⟩ => c

theorem jl_eta (i : Cert.ReferenceIdeal.S1024x100000.Idx) : jl (i 0) (i 1) = i := funext fun a => match a with | ⟨0, _⟩ => rfl | ⟨1, _⟩ => rfl
theorem jr_eta (i : Cert.ReferenceIdeal.S1024.Idx) : jr (i 0) = i := funext fun a => match a with | ⟨0, _⟩ => rfl

section scatter

variable [hR : Cert.ReferenceIdeal.Facts]
open Cert.ReferenceIdeal Cert.ReferenceIdeal.Facts₀ Cert.ReferenceIdeal.Facts

/-- The scatter of the reference. -/
abbrev sd : ScatterDims S1024x100000 S1024x2 S1024 := scatter_S1024x100000_S1024x2_S1024_n_01_01_1

theorem start_0 (r : Fin 1024) (idx : IVec S1024x2 32) : sd.start (jr r) idx 0 = (idx (js r 0)).toInt := by
  unfold ScatterDims.start
  rw [dif_pos (by decide)]
  congr 2
  funext b
  match b with
  | ⟨0, _⟩ => rfl
  | ⟨1, _⟩ => rfl

theorem start_1 (r : Fin 1024) (idx : IVec S1024x2 32) : sd.start (jr r) idx 1 = (idx (js r 1)).toInt := by
  unfold ScatterDims.start
  rw [dif_pos (by decide)]
  congr 2
  funext b
  match b with
  | ⟨0, _⟩ => rfl
  | ⟨1, _⟩ => rfl

theorem window_0 (j : S1024.Idx) (a : Fin 2) : sd.window j a = 0 := by
  unfold ScatterDims.window
  exact dif_neg (by revert a; decide)

/-- Where an update lands: at its own two components, if they lie in the array. -/
theorem lands (r : Fin 1024) (idx : IVec S1024x2 32) (q : Fin 1024) (v : Fin 100000) :
    sd.resultIdx? (jr r) idx = some (jl q v) ↔ (idx (js r 0)).toInt = (q.val : Int) ∧ (idx (js r 1)).toInt = (v.val : Int) := by
  unfold ScatterDims.resultIdx?
  constructor
  · intro h
    split at h
    · rename_i hb
      have e := Option.some.inj h
      have e0 := congrArg Fin.val (congrFun e 0)
      have e1 := congrArg Fin.val (congrFun e 1)
      have h0 := hb 0
      have h1 := hb 1
      simp only [start_0, start_1, window_0] at e0 e1 h0 h1
      change _ = q.val at e0
      change _ = v.val at e1
      omega
    · exact absurd h (by simp)
  · rintro ⟨e0, e1⟩
    have hq := q.isLt
    have hv := v.isLt
    have hb : ∀ a : Fin 2, 0 ≤ sd.start (jr r) idx a + sd.window (jr r) a ∧
        sd.start (jr r) idx a + sd.window (jr r) a < (S1024x100000.size a : Int) := by
      intro a
      match a with
      | ⟨0, _⟩ =>
        have := start_0 r idx
        have w := window_0 (jr r) 0
        change 0 ≤ sd.start (jr r) idx 0 + sd.window (jr r) 0 ∧ sd.start (jr r) idx 0 + sd.window (jr r) 0 < (1024 : Int)
        omega
      | ⟨1, _⟩ =>
        have := start_1 r idx
        have w := window_0 (jr r) 1
        change 0 ≤ sd.start (jr r) idx 1 + sd.window (jr r) 1 ∧ sd.start (jr r) idx 1 + sd.window (jr r) 1 < (100000 : Int)
        omega
    rw [dif_pos hb]
    congr 1
    funext a
    match a with
    | ⟨0, _⟩ =>
      apply Fin.ext
      have := start_0 r idx
      have w := window_0 (jr r) 0
      change (sd.start (jr r) idx 0 + sd.window (jr r) 0).toNat = q.val
      omega
    | ⟨1, _⟩ =>
      apply Fin.ext
      have := start_1 r idx
      have w := window_0 (jr r) 1
      change (sd.start (jr r) idx 1 + sd.window (jr r) 1).toNat = v.val
      omega

/-- The reference's labels with `-1` made zero. -/
def safe (lab : IVec S1024 32) : IVec S1024 32 :=
  select (cmpi .ne lab (broadcastInDim S1024 ![] bcast_S_S1024 (constantI S_ 32 4294967295#32))) lab
    (broadcastInDim S1024 ![] bcast_S_S1024 (id (constantI S_ 32 0#32)))

/-- The reference's scatter indices. -/
def refIdx (lab : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩,
    ⟨S1024x1, (broadcastInDim S1024x1 ![0] bcast_S1024_S1024x1_0 (select (cmpi .slt (safe lab) (broadcastInDim S1024 ![] bcast_S_S1024 (constantI S_ 32 0#32))) (addi (safe lab) (broadcastInDim S1024 ![] bcast_S_S1024 (constantI S_ 32 100000#32))) (safe lab)))⟩] concatenates_S1024x1_S1024x1_S1024x2_d1

/-- A label with `-1` made zero, and with a negative one counted from the end. -/
def safe1 (l : BitVec 32) : BitVec 32 := Scalar.select (IntOp.cmpi .ne l 4294967295#32) l 0#32
def wrap1 (l : BitVec 32) : BitVec 32 := Scalar.select (IntOp.cmpi .slt (safe1 l) 0#32) (safe1 l + 100000#32) (safe1 l)

theorem refIdx_0 (lab : IVec S1024 32) (r : Fin 1024) : (refIdx lab (js r 0)).toInt = (r.val : Int) := by
  have e : refIdx lab (js r 0) = Scalar.select (IntOp.cmpi .slt (BitVec.ofNat 32 r.val) 0#32) (BitVec.ofNat 32 r.val + 1024#32) (BitVec.ofNat 32 r.val) := rfl
  have hr := r.isLt
  have hi : (BitVec.ofNat 32 r.val).toInt = (r.val : Int) := by
    rw [BitVec.toInt_eq_toNat_cond, BitVec.toNat_ofNat]; omega
  have hs : IntOp.cmpi .slt (BitVec.ofNat 32 r.val) 0#32 = 0#1 := by
    have : (BitVec.ofNat 32 r.val).slt 0#32 = false := by
      rw [BitVec.slt_eq_decide, hi, BitVec.toInt_zero]; exact decide_eq_false (by omega)
    simp [IntOp.cmpi, this]
  rw [e, hs]
  exact hi

theorem refIdx_1 (lab : IVec S1024 32) (r : Fin 1024) : refIdx lab (js r 1) = wrap1 (lab (jr r)) := by
  unfold refIdx
  generalize hy : (select (cmpi .slt (safe lab) (broadcastInDim S1024 ![] bcast_S_S1024 (constantI S_ 32 0#32))) (addi (safe lab) (broadcastInDim S1024 ![] bcast_S_S1024 (constantI S_ 32 100000#32))) (safe lab)) = y
  have e : y (jr r) = wrap1 (lab (jr r)) := by rw [← hy]; rfl
  rw [← e]
  exact congrArg y (funext fun a => match a with | ⟨0, _⟩ => rfl)

/-- What the scatter adds at a place: its row's update, if the row's label names its column. -/
theorem adds (lab : IVec S1024 32) (upd : S1024.Idx → EReal) (q : Fin 1024) (v : Fin 100000) :
    (∑ j ∈ Finset.univ.filter (fun j => sd.resultIdx? j (refIdx lab) = some (jl q v)), upd j)
      = if (wrap1 (lab (jr q))).toInt = (v.val : Int) then upd (jr q) else 0 := by
  have h : ∀ j : S1024.Idx, sd.resultIdx? j (refIdx lab) = some (jl q v) ↔ j = jr q ∧ (wrap1 (lab (jr q))).toInt = (v.val : Int) := by
    intro j
    obtain ⟨r, rfl⟩ : ∃ r : Fin 1024, jr r = j := ⟨j 0, jr_eta j⟩
    rw [lands, refIdx_0, refIdx_1]
    constructor
    · rintro ⟨e0, e1⟩
      have : r = q := Fin.ext (by exact_mod_cast e0)
      subst this
      exact ⟨rfl, e1⟩
    · rintro ⟨e0, e1⟩
      have : r = q := congrFun e0 0
      subst this
      exact ⟨rfl, e1⟩
  rw [Finset.sum_filter, Finset.sum_eq_single (jr q)]
  · simp only [h, true_and]
  · intro j _ hj
    rw [if_neg (fun e => hj ((h j).1 e).1)]
  · intro e
    exact absurd (Finset.mem_univ _) e

end scatter

/-- The constants: the scale, the margin, the margin scaled. -/
theorem c64 : Ideal.ofBits .f32 0x42800000#32 = ((64 : ℝ) : EReal) := by
  simp [Ideal.ofBits, Ideal.ieee, -EReal.coe_mul]; norm_num
theorem cδ : Ideal.ofBits .f32 0xBECCCCCD#32 = ((-(13421773 / 33554432) : ℝ) : EReal) := by
  simp [Ideal.ofBits, Ideal.ieee, -EReal.coe_mul]; norm_num
theorem cδ64 : Ideal.ofBits .f32 0xC1CCCCCD#32 = ((-(13421773 / 524288) : ℝ) : EReal) := by
  simp [Ideal.ofBits, Ideal.ieee, -EReal.coe_mul]; norm_num
theorem c0 : Ideal.ofBits .f32 0x00000000#32 = 0 := by
  simp [Ideal.ofBits, Ideal.ieee]

/-- Scaling after the shift is shifting by the scaled margin after the scaling, at infinities too. -/
theorem scale_add (x : EReal) :
    (x + Ideal.ofBits .f32 0xBECCCCCD#32) * Ideal.ofBits .f32 0x42800000#32
      = x * Ideal.ofBits .f32 0x42800000#32 + Ideal.ofBits .f32 0xC1CCCCCD#32 := by
  rw [c64, cδ, cδ64]
  induction x with
  | bot => rw [EReal.bot_add, EReal.bot_mul_coe_of_pos (by norm_num), EReal.bot_add]
  | top => rw [EReal.top_add_coe, EReal.top_mul_coe_of_pos (by norm_num), EReal.top_add_coe]
  | coe x =>
    rw [← EReal.coe_add, ← EReal.coe_mul, ← EReal.coe_mul, ← EReal.coe_add]
    congr 1
    ring

/-- One place of the results, given that the label is not a negative one the reference counts from the end. -/
theorem place (x : EReal) (l : BitVec 32) (v : ℕ) (hv : v < 100000) (hl : -1 ≤ l.toInt ∨ l.toInt < -100000) :
    (x + if (wrap1 l).toInt = (v : Int) then
        Scalar.select (IntOp.cmpi .ne l 4294967295#32) (Ideal.ofBits .f32 0xBECCCCCD#32) (Ideal.ofBits .f32 0x00000000#32) else 0)
      * Ideal.ofBits .f32 0x42800000#32
      = gval (F := Ideal) x l (BitVec.ofNat 32 v) := by
  have hvi : (BitVec.ofNat 32 v).toInt = (v : Int) := by
    rw [BitVec.toInt_eq_toNat_cond, BitVec.toNat_ofNat]; omega
  have hg : gval (F := Ideal) x l (BitVec.ofNat 32 v) = if l.toInt = (v : Int) then
      x * Ideal.ofBits .f32 0x42800000#32 + Ideal.ofBits .f32 0xC1CCCCCD#32 else x * Ideal.ofBits .f32 0x42800000#32 := by
    by_cases h : l.toInt = (v : Int)
    · have : l = BitVec.ofNat 32 v := BitVec.eq_of_toInt_eq (h.trans hvi.symm)
      rw [if_pos h, this]
      simp [gval, IntOp.cmpi, Scalar.select, Scalar.ofBits]
    · have : ¬ l = BitVec.ofNat 32 v := fun e => h (e ▸ hvi)
      rw [if_neg h]
      simp [gval, IntOp.cmpi, Scalar.select, Scalar.ofBits, beq_false_of_ne this]
  rw [hg]
  by_cases h1 : l = 4294967295#32
  · subst h1
    have e : IntOp.cmpi .ne 4294967295#32 4294967295#32 = 0#1 := by decide
    have en : ¬ (4294967295#32 : BitVec 32).toInt = (v : Int) := by
      have : (4294967295#32 : BitVec 32).toInt = -1 := by decide
      omega
    rw [e, if_neg en]
    simp [Scalar.select, c0]
  · have e : IntOp.cmpi .ne l 4294967295#32 = 1#1 := by simp [IntOp.cmpi, bne, beq_false_of_ne h1]
    have es : safe1 l = l := by unfold safe1; rw [e]; rfl
    have el : l.toInt ≠ -1 := fun h => h1 (BitVec.eq_of_toInt_eq (h.trans (by decide)))
    have ew : (wrap1 l).toInt = (v : Int) ↔ l.toInt = (v : Int) := by
      unfold wrap1
      rw [es]
      rcases hl with hl | hl
      · have : l.slt 0#32 = false := by
          rw [BitVec.slt_eq_decide, BitVec.toInt_zero]; exact decide_eq_false (by omega)
        simp [IntOp.cmpi, this, Scalar.select]
      · have : l.slt 0#32 = true := by
          rw [BitVec.slt_eq_decide, BitVec.toInt_zero]; exact decide_eq_true (by omega)
        have hw : (l + 100000#32).toInt = l.toInt + 100000 := by
          have hlo := BitVec.le_toInt l
          rw [BitVec.toInt_add]
          have : (100000#32 : BitVec 32).toInt = 100000 := by decide
          rw [this]
          apply Int.bmod_eq_of_le <;> omega
        have ev : Scalar.select (IntOp.cmpi .slt l 0#32) (l + 100000#32) l = l + 100000#32 := by
          simp [IntOp.cmpi, this, Scalar.select]
        rw [ev, hw]
        omega
    rw [e]
    by_cases h : l.toInt = (v : Int)
    · rw [if_pos (ew.2 h), if_pos h]
      exact scale_add x
    · rw [if_neg (fun q => h (ew.1 q)), if_neg h, add_zero]

section value

variable [hR : Cert.ReferenceIdeal.Facts]
open Cert.ReferenceIdeal Cert.ReferenceIdeal.Facts₀ Cert.ReferenceIdeal.Facts

/-- The reference's result of the logits and the labels. -/
def refVal (x : FVec Ideal S1024x100000 .f32) (lab : IVec S1024 32) : FVec Ideal S1024x100000 .f32 :=
  mulf (Host.scatterAdd sd x (refIdx lab) (id (select (cmpi .ne lab (broadcastInDim S1024 ![] bcast_S_S1024 (constantI S_ 32 4294967295#32)))
      (broadcastInDim S1024 ![] bcast_S_S1024 (constant S_ .f32 0xBECCCCCD#32)) (broadcastInDim S1024 ![] bcast_S_S1024 (constant S_ .f32 0x00000000#32)))))
    (broadcastInDim S1024x100000 ![] bcast_S_S1024x100000 (constant S_ .f32 0x42800000#32))

/-- The reference's result at a place. -/
theorem refVal_apply (x : FVec Ideal S1024x100000 .f32) (lab : IVec S1024 32) (hl : ∀ r, -1 ≤ (lab (jr r)).toInt ∨ (lab (jr r)).toInt < -100000)
    (r : Fin 1024) (v : Fin 100000) : refVal x lab (jl r v) = gval (F := Ideal) (x (jl r v)) (lab (jr r)) (BitVec.ofNat 32 v.val) := by
  rw [← place _ _ v.val v.isLt (hl r)]
  have h := adds lab (id (select (cmpi .ne lab (broadcastInDim S1024 ![] bcast_S_S1024 (constantI S_ 32 4294967295#32)))
      (broadcastInDim S1024 ![] bcast_S_S1024 (constant (F := Ideal) S_ .f32 0xBECCCCCD#32)) (broadcastInDim S1024 ![] bcast_S_S1024 (constant (F := Ideal) S_ .f32 0x00000000#32)))) r v
  exact congrArg (fun y => (x (jl r v) + y) * Ideal.ofBits .f32 0x42800000#32) h

end value

/-- The precondition: no label is one that the reference counts from the end, but `-1`. -/
theorem labels_of_pre [Cert.Pre_labels_plain.Facts] (x : FVec Ideal Cert.Pre_labels_plain.S1024x100000 .f32) (lab : IVec Cert.Pre_labels_plain.S1024 32)
    (z : FVec Ideal Cert.Pre_labels_plain.S1024x128 .f32) (h : Cert.Pre_labels_plain.fn (F := Ideal) x lab z = fun _ => 1#1) (r : Fin 1024) :
    -1 ≤ (lab (jr r)).toInt ∨ (lab (jr r)).toInt < -100000 := by
  have e := congrFun h (jr r)
  simp only [Cert.Pre_labels_plain.fn, ori, cmpi, broadcastInDim, constantI] at e
  have h1 : (4294967295#32 : BitVec 32).toInt = -1 := by decide
  have h2 : (4294867296#32 : BitVec 32).toInt = -100000 := by decide
  by_contra hn
  have a1 : (4294967295#32 : BitVec 32).sle (lab (jr r)) = false := by
    rw [BitVec.sle_eq_decide, h1]; exact decide_eq_false (by omega)
  have a2 : (lab (jr r)).slt 4294867296#32 = false := by
    rw [BitVec.slt_eq_decide, h2]; exact decide_eq_false (by omega)
  simp [IntOp.cmpi, IntOp.ori, a1, a2] at e

open Cert.KernelIdeal.Gen in
/-- The kernel's result at a place. -/
theorem R_apply (m : (ℓ : Loc Cert.KernelIdeal.nD Cert.KernelIdeal.τ Cert.KernelIdeal.sig) → Buf (Elt Ideal) ℓ) (c : Dev Cert.KernelIdeal.nD)
    (r : Fin 1024) (v : Fin 100000) :
    R m c (jl r v) = gval (F := Ideal) ((m ((c.tc : Thread Cert.KernelIdeal.nD Cert.KernelIdeal.τ).loc Cert.KernelIdeal.main_arg0) : FVec Ideal Cert.KernelIdeal.S1024x100000 .f32) (jl r v))
      ((m ((c.tc : Thread Cert.KernelIdeal.nD Cert.KernelIdeal.τ).loc Cert.KernelIdeal.main_arg1) : IVec Cert.KernelIdeal.S1024 32) (jr r)) (BitVec.ofNat 32 v.val) := by
  have e : ∀ x : FVec Ideal Cert.KernelIdeal.S1024x100000 .f32, ∀ l : IVec Cert.KernelIdeal.S1024 32,
      transpose Cert.KernelIdeal.S1024x100000 [1, 0] (G (F := Ideal) (transpose Cert.KernelIdeal.S100000x1024 [1, 0] x
        transposes_S1024x100000_S100000x1024_1_0) l : FVec Ideal Cert.KernelIdeal.S100000x1024 .f32)
        transposes_S100000x1024_S1024x100000_1_0 (jl r v) = gval (F := Ideal) (x (jl r v)) (l (jr r)) (BitVec.ofNat 32 v.val) := by
    intro x l
    have e1 : transpose Cert.KernelIdeal.S100000x1024 [1, 0] x transposes_S1024x100000_S100000x1024_1_0 (ix2 v r) = x (jl r v) :=
      congrArg x (funext fun a => match a with | ⟨0, _⟩ => rfl | ⟨1, _⟩ => rfl)
    have e2 : (ix1 r : Cert.KernelIdeal.S1024.Idx) = jr r := funext fun a => match a with | ⟨0, _⟩ => rfl
    rw [← e1, ← e2]
    refine (congrArg (G (F := Ideal) _ l) (?_ : _ = ix2 v r)).trans rfl
    exact funext fun a => match a with | ⟨0, _⟩ => rfl | ⟨1, _⟩ => rfl
  exact e _ _

open Cert.KernelIdeal.Gen Cert.ReferenceIdeal.Gen in
/-- From memories agreeing on the arguments both programs end with one result. -/
theorem value [hP : Cert.Pre_labels_plain.Facts] :
    Cert.algebraic_KernelIdeal_ReferenceIdeal_pre_labels_plain (hKernelIdeal := Cert.KernelIdeal.Gen.facts) (hReferenceIdeal := Cert.ReferenceIdeal.Gen.facts) := by
  intro m ρ m' ρ' hpre hagree
  refine ⟨fun c => R m c, (θ_run Cert.KernelIdeal.defs _ _).mono (fun _ h c => h.1 c) (run_main (F := Ideal) m ρ), ?_⟩
  refine (θ_run Cert.ReferenceIdeal.defs _ _).mono (fun _ h c => ⟨((h c).1).trans ?_, (h c).2⟩) (Cert.ReferenceIdeal.Value.run (F := Ideal) m' ρ')
  obtain ⟨h0, h1, -⟩ := hagree c
  rw [h0, h1]
  funext i
  obtain ⟨r, v, rfl⟩ : ∃ (r : Fin 1024) (v : Fin 100000), jl r v = i := ⟨i 0, i 1, jl_eta i⟩
  refine Eq.trans ?_ (R_apply m c r v).symm
  exact refVal_apply (hR := Cert.ReferenceIdeal.Gen.facts) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (labels_of_pre _ _ _ (hpre c)) r v

/-- The frames once more, where the precondition holds. -/
theorem frame_kernelIdeal_pre [hP : Cert.Pre_labels_plain.Facts] :
    Cert.quiescent_KernelIdeal_pre_labels_plain (hKernelIdeal := Cert.KernelIdeal.Gen.facts) :=
  fun m ρ _ => frame_kernelIdeal m ρ trivial

theorem frame_referenceIdeal_pre [hP : Cert.Pre_labels_plain.Facts] :
    Cert.quiescent_ReferenceIdeal_pre_labels_plain (hReferenceIdeal := Cert.ReferenceIdeal.Gen.facts) :=
  fun m ρ _ => frame_referenceIdeal m ρ trivial

end Cert.Proof.Tile

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_labels_plain
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_labels_plain.Gen.facts,
    Tile.frame_kernel, Tile.frame_kernelIdeal, Tile.frame_kernelIdeal_pre, Tile.frame_referenceIdeal,
    Tile.frame_referenceIdeal_pre, trivial, Tile.value⟩

end Cert.Proof

end
